-- ==== Defs.lean ====
def Pre_KernelAtt (m : (ℓ : Loc Cert.KernelAtt.nD Cert.KernelAtt.τ Cert.KernelAtt.sig) → Buf (Elt Bits) ℓ) : Prop :=
  True

def Pre_KernelAttIdeal (m : (ℓ : Loc Cert.KernelAttIdeal.nD Cert.KernelAttIdeal.τ Cert.KernelAttIdeal.sig) → Buf (Elt Ideal) ℓ) : Prop :=
  True

def Pre_KernelAttIdeal_queries_keys_finite [hPre_queries_keys_finite : Cert.Pre_queries_keys_finite.Facts] (m : (ℓ : Loc Cert.KernelAttIdeal.nD Cert.KernelAttIdeal.τ Cert.KernelAttIdeal.sig) → Buf (Elt Ideal) ℓ) : Prop :=
  ∀ c : Dev Cert.KernelAttIdeal.nD,
    (Cert.Pre_queries_keys_finite.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2))) = (fun _ => 1#1)

def Pre_ReferenceAttIdeal (m : (ℓ : Loc Cert.ReferenceAttIdeal.nD Cert.ReferenceAttIdeal.τ Cert.ReferenceAttIdeal.sig) → Buf (Elt Ideal) ℓ) : Prop :=
  True

def Pre_ReferenceAttIdeal_queries_keys_finite [hPre_queries_keys_finite : Cert.Pre_queries_keys_finite.Facts] (m : (ℓ : Loc Cert.ReferenceAttIdeal.nD Cert.ReferenceAttIdeal.τ Cert.ReferenceAttIdeal.sig) → Buf (Elt Ideal) ℓ) : Prop :=
  ∀ c : Dev Cert.ReferenceAttIdeal.nD,
    (Cert.Pre_queries_keys_finite.fn (F := Ideal) (m ((c.tc : Thread Cert.ReferenceAttIdeal.nD Cert.ReferenceAttIdeal.τ).loc Cert.ReferenceAttIdeal.main_arg0)) (m ((c.tc : Thread Cert.ReferenceAttIdeal.nD Cert.ReferenceAttIdeal.τ).loc Cert.ReferenceAttIdeal.main_arg1)) (m ((c.tc : Thread Cert.ReferenceAttIdeal.nD Cert.ReferenceAttIdeal.τ).loc Cert.ReferenceAttIdeal.main_arg2))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelCaches (m : (ℓ : Loc Cert.KernelCaches.nD Cert.KernelCaches.τ Cert.KernelCaches.sig) → Buf (Elt Bits) ℓ) : Prop :=
  True

def Pre_KernelCachesIdeal (m : (ℓ : Loc Cert.KernelCachesIdeal.nD Cert.KernelCachesIdeal.τ Cert.KernelCachesIdeal.sig) → Buf (Elt Ideal) ℓ) : Prop :=
  True

def Pre_ReferenceCachesIdeal (m : (ℓ : Loc Cert.ReferenceCachesIdeal.nD Cert.ReferenceCachesIdeal.τ Cert.ReferenceCachesIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelModA (m : (ℓ : Loc Cert.KernelModA.nD Cert.KernelModA.τ Cert.KernelModA.sig) → Buf (Elt Bits) ℓ) : Prop :=
  True

def Pre_KernelModAIdeal (m : (ℓ : Loc Cert.KernelModAIdeal.nD Cert.KernelModAIdeal.τ Cert.KernelModAIdeal.sig) → Buf (Elt Ideal) ℓ) : Prop :=
  True

def Pre_ReferenceModAIdeal (m : (ℓ : Loc Cert.ReferenceModAIdeal.nD Cert.ReferenceModAIdeal.τ Cert.ReferenceModAIdeal.sig) → Buf (Elt Ideal) ℓ) : Prop :=
  True

def Pre_KernelModB (m : (ℓ : Loc Cert.KernelModB.nD Cert.KernelModB.τ Cert.KernelModB.sig) → Buf (Elt Bits) ℓ) : Prop :=
  True

def Pre_KernelModBIdeal (m : (ℓ : Loc Cert.KernelModBIdeal.nD Cert.KernelModBIdeal.τ Cert.KernelModBIdeal.sig) → Buf (Elt Ideal) ℓ) : Prop :=
  True

def Pre_ReferenceModBIdeal (m : (ℓ : Loc Cert.ReferenceModBIdeal.nD Cert.ReferenceModBIdeal.τ Cert.ReferenceModBIdeal.sig) → Buf (Elt Ideal) ℓ) : Prop :=
  True

def Pre_KernelPrompt (m : (ℓ : Loc Cert.KernelPrompt.nD Cert.KernelPrompt.τ Cert.KernelPrompt.sig) → Buf (Elt Bits) ℓ) : Prop :=
  True

def Pre_KernelPromptIdeal (m : (ℓ : Loc Cert.KernelPromptIdeal.nD Cert.KernelPromptIdeal.τ Cert.KernelPromptIdeal.sig) → Buf (Elt Ideal) ℓ) : Prop :=
  True

def Pre_ReferencePromptIdeal (m : (ℓ : Loc Cert.ReferencePromptIdeal.nD Cert.ReferencePromptIdeal.τ Cert.ReferencePromptIdeal.sig) → Buf (Elt Ideal) ℓ) : Prop :=
  True

def Pre_KernelSample (m : (ℓ : Loc Cert.KernelSample.nD Cert.KernelSample.τ Cert.KernelSample.sig) → Buf (Elt Bits) ℓ) : Prop :=
  True

def Pre_KernelSampleIdeal (m : (ℓ : Loc Cert.KernelSampleIdeal.nD Cert.KernelSampleIdeal.τ Cert.KernelSampleIdeal.sig) → Buf (Elt Ideal) ℓ) : Prop :=
  True

def Pre_ReferenceSampleIdeal (m : (ℓ : Loc Cert.ReferenceSampleIdeal.nD Cert.ReferenceSampleIdeal.τ Cert.ReferenceSampleIdeal.sig) → Buf (Elt Ideal) ℓ) : Prop :=
  True

def Pre_KernelSsdNorm (m : (ℓ : Loc Cert.KernelSsdNorm.nD Cert.KernelSsdNorm.τ Cert.KernelSsdNorm.sig) → Buf (Elt Bits) ℓ) : Prop :=
  True

def Pre_KernelSsdNormIdeal (m : (ℓ : Loc Cert.KernelSsdNormIdeal.nD Cert.KernelSsdNormIdeal.τ Cert.KernelSsdNormIdeal.sig) → Buf (Elt Ideal) ℓ) : Prop :=
  True

def Pre_ReferenceSsdNormIdeal (m : (ℓ : Loc Cert.ReferenceSsdNormIdeal.nD Cert.ReferenceSsdNormIdeal.τ Cert.ReferenceSsdNormIdeal.sig) → Buf (Elt Ideal) ℓ) : Prop :=
  True

def Pre_KernelHyNorm (m : (ℓ : Loc Cert.KernelHyNorm.nD Cert.KernelHyNorm.τ Cert.KernelHyNorm.sig) → Buf (Elt Bits) ℓ) : Prop :=
  True

def Pre_KernelHyNormIdeal (m : (ℓ : Loc Cert.KernelHyNormIdeal.nD Cert.KernelHyNormIdeal.τ Cert.KernelHyNormIdeal.sig) → Buf (Elt Ideal) ℓ) : Prop :=
  True

def Pre_ReferenceHyNormIdeal (m : (ℓ : Loc Cert.ReferenceHyNormIdeal.nD Cert.ReferenceHyNormIdeal.τ Cert.ReferenceHyNormIdeal.sig) → Buf (Elt Ideal) ℓ) : Prop :=
  True

def quiescent_KernelAtt [hKernelAtt : Cert.KernelAtt.Facts] : Prop :=
  ∀ (m : (ℓ : Loc Cert.KernelAtt.nD Cert.KernelAtt.τ Cert.KernelAtt.sig) → Buf (Elt Bits) ℓ) (g : Dev Cert.KernelAtt.nD → PrngReg), Pre_KernelAtt m →
    θ_run (Cert.KernelAtt.defs (F := Bits)) (onTc (τ := Cert.KernelAtt.τ) (Cert.KernelAtt.main (F := Bits))) ⟨m, fun _ => 0, g⟩ (fun r => (∀ c : Dev Cert.KernelAtt.nD,
      r.2.mem ((c.tc : Thread Cert.KernelAtt.nD Cert.KernelAtt.τ).loc Cert.KernelAtt.main_arg0) = m ((c.tc : Thread Cert.KernelAtt.nD Cert.KernelAtt.τ).loc Cert.KernelAtt.main_arg0)
      ∧ r.2.mem ((c.tc : Thread Cert.KernelAtt.nD Cert.KernelAtt.τ).loc Cert.KernelAtt.main_arg1) = m ((c.tc : Thread Cert.KernelAtt.nD Cert.KernelAtt.τ).loc Cert.KernelAtt.main_arg1)
      ∧ r.2.mem ((c.tc : Thread Cert.KernelAtt.nD Cert.KernelAtt.τ).loc Cert.KernelAtt.main_arg2) = m ((c.tc : Thread Cert.KernelAtt.nD Cert.KernelAtt.τ).loc Cert.KernelAtt.main_arg2))
      ∧ r.2.sem = fun _ => 0)

def quiescent_KernelAttIdeal [hKernelAttIdeal : Cert.KernelAttIdeal.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2))
      ∧ r.2.sem = fun _ => 0)

def quiescent_KernelAttIdeal_pre_queries_keys_finite [hKernelAttIdeal : Cert.KernelAttIdeal.Facts] [hPre_queries_keys_finite : Cert.Pre_queries_keys_finite.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal_queries_keys_finite m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2))
      ∧ r.2.sem = fun _ => 0)

def quiescent_ReferenceAttIdeal [hReferenceAttIdeal : Cert.ReferenceAttIdeal.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1)
      ∧ r.2.mem ((c.tc : Thread Cert.ReferenceAttIdeal.nD Cert.ReferenceAttIdeal.τ).loc Cert.ReferenceAttIdeal.main_arg2) = m ((c.tc : Thread Cert.ReferenceAttIdeal.nD Cert.ReferenceAttIdeal.τ).loc Cert.ReferenceAttIdeal.main_arg2))
      ∧ r.2.sem = fun _ => 0)

def quiescent_ReferenceAttIdeal_pre_queries_keys_finite [hReferenceAttIdeal : Cert.ReferenceAttIdeal.Facts] [hPre_queries_keys_finite : Cert.Pre_queries_keys_finite.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal_queries_keys_finite m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1)
      ∧ r.2.mem ((c.tc : Thread Cert.ReferenceAttIdeal.nD Cert.ReferenceAttIdeal.τ).loc Cert.ReferenceAttIdeal.main_arg2) = m ((c.tc : Thread Cert.ReferenceAttIdeal.nD Cert.ReferenceAttIdeal.τ).loc Cert.ReferenceAttIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelCaches [hKernelCaches : Cert.KernelCaches.Facts] : Prop :=
  ∀ (m : (ℓ : Loc Cert.KernelCaches.nD Cert.KernelCaches.τ Cert.KernelCaches.sig) → Buf (Elt Bits) ℓ) (g : Dev Cert.KernelCaches.nD → PrngReg), Pre_KernelCaches m →
    θ_run (Cert.KernelCaches.defs (F := Bits)) (onTc (τ := Cert.KernelCaches.τ) (Cert.KernelCaches.main (F := Bits))) ⟨m, fun _ => 0, g⟩ (fun r => (∀ c : Dev Cert.KernelCaches.nD,
      r.2.mem ((c.tc : Thread Cert.KernelCaches.nD Cert.KernelCaches.τ).loc Cert.KernelCaches.main_arg0) = m ((c.tc : Thread Cert.KernelCaches.nD Cert.KernelCaches.τ).loc Cert.KernelCaches.main_arg0)
      ∧ r.2.mem ((c.tc : Thread Cert.KernelCaches.nD Cert.KernelCaches.τ).loc Cert.KernelCaches.main_arg1) = m ((c.tc : Thread Cert.KernelCaches.nD Cert.KernelCaches.τ).loc Cert.KernelCaches.main_arg1)
      ∧ r.2.mem ((c.tc : Thread Cert.KernelCaches.nD Cert.KernelCaches.τ).loc Cert.KernelCaches.main_arg2) = m ((c.tc : Thread Cert.KernelCaches.nD Cert.KernelCaches.τ).loc Cert.KernelCaches.main_arg2)
      ∧ r.2.mem ((c.tc : Thread Cert.KernelCaches.nD Cert.KernelCaches.τ).loc Cert.KernelCaches.main_arg3) = m ((c.tc : Thread Cert.KernelCaches.nD Cert.KernelCaches.τ).loc Cert.KernelCaches.main_arg3)
      ∧ r.2.mem ((c.tc : Thread Cert.KernelCaches.nD Cert.KernelCaches.τ).loc Cert.KernelCaches.main_arg4) = m ((c.tc : Thread Cert.KernelCaches.nD Cert.KernelCaches.τ).loc Cert.KernelCaches.main_arg4))
      ∧ r.2.sem = fun _ => 0)

def quiescent_KernelCachesIdeal [hKernelCachesIdeal : Cert.KernelCachesIdeal.Facts] : Prop :=
  ∀ (m : (ℓ : Loc Cert.KernelCachesIdeal.nD Cert.KernelCachesIdeal.τ Cert.KernelCachesIdeal.sig) → Buf (Elt Ideal) ℓ) (g : Dev Cert.KernelCachesIdeal.nD → PrngReg), Pre_KernelCachesIdeal m →
    θ_run (Cert.KernelCachesIdeal.defs (F := Ideal)) (onTc (τ := Cert.KernelCachesIdeal.τ) (Cert.KernelCachesIdeal.main (F := Ideal))) ⟨m, fun _ => 0, g⟩ (fun r => (∀ c : Dev Cert.KernelCachesIdeal.nD,
      r.2.mem ((c.tc : Thread Cert.KernelCachesIdeal.nD Cert.KernelCachesIdeal.τ).loc Cert.KernelCachesIdeal.main_arg0) = m ((c.tc : Thread Cert.KernelCachesIdeal.nD Cert.KernelCachesIdeal.τ).loc Cert.KernelCachesIdeal.main_arg0)
      ∧ r.2.mem ((c.tc : Thread Cert.KernelCachesIdeal.nD Cert.KernelCachesIdeal.τ).loc Cert.KernelCachesIdeal.main_arg1) = m ((c.tc : Thread Cert.KernelCachesIdeal.nD Cert.KernelCachesIdeal.τ).loc Cert.KernelCachesIdeal.main_arg1)
      ∧ r.2.mem ((c.tc : Thread Cert.KernelCachesIdeal.nD Cert.KernelCachesIdeal.τ).loc Cert.KernelCachesIdeal.main_arg2) = m ((c.tc : Thread Cert.KernelCachesIdeal.nD Cert.KernelCachesIdeal.τ).loc Cert.KernelCachesIdeal.main_arg2)
      ∧ r.2.mem ((c.tc : Thread Cert.KernelCachesIdeal.nD Cert.KernelCachesIdeal.τ).loc Cert.KernelCachesIdeal.main_arg3) = m ((c.tc : Thread Cert.KernelCachesIdeal.nD Cert.KernelCachesIdeal.τ).loc Cert.KernelCachesIdeal.main_arg3)
      ∧ r.2.mem ((c.tc : Thread Cert.KernelCachesIdeal.nD Cert.KernelCachesIdeal.τ).loc Cert.KernelCachesIdeal.main_arg4) = m ((c.tc : Thread Cert.KernelCachesIdeal.nD Cert.KernelCachesIdeal.τ).loc Cert.KernelCachesIdeal.main_arg4))
      ∧ r.2.sem = fun _ => 0)

def quiescent_ReferenceCachesIdeal [hReferenceCachesIdeal : Cert.ReferenceCachesIdeal.Facts] : Prop :=
  ∀ (m : (ℓ : Loc Cert.ReferenceCachesIdeal.nD Cert.ReferenceCachesIdeal.τ Cert.ReferenceCachesIdeal.sig) → Buf (Elt Ideal) ℓ) (g : Dev Cert.ReferenceCachesIdeal.nD → PrngReg), Pre_ReferenceCachesIdeal m →
    θ_run (Cert.ReferenceCachesIdeal.defs (F := Ideal)) (onTc (τ := Cert.ReferenceCachesIdeal.τ) (Cert.ReferenceCachesIdeal.main (F := Ideal))) ⟨m, fun _ => 0, g⟩ (fun r => (∀ c : Dev Cert.ReferenceCachesIdeal.nD,
      r.2.mem ((c.tc : Thread Cert.ReferenceCachesIdeal.nD Cert.ReferenceCachesIdeal.τ).loc Cert.ReferenceCachesIdeal.main_arg0) = m ((c.tc : Thread Cert.ReferenceCachesIdeal.nD Cert.ReferenceCachesIdeal.τ).loc Cert.ReferenceCachesIdeal.main_arg0)
      ∧ r.2.mem ((c.tc : Thread Cert.ReferenceCachesIdeal.nD Cert.ReferenceCachesIdeal.τ).loc Cert.ReferenceCachesIdeal.main_arg1) = m ((c.tc : Thread Cert.ReferenceCachesIdeal.nD Cert.ReferenceCachesIdeal.τ).loc Cert.ReferenceCachesIdeal.main_arg1)
      ∧ r.2.mem ((c.tc : Thread Cert.ReferenceCachesIdeal.nD Cert.ReferenceCachesIdeal.τ).loc Cert.ReferenceCachesIdeal.main_arg2) = m ((c.tc : Thread Cert.ReferenceCachesIdeal.nD Cert.ReferenceCachesIdeal.τ).loc Cert.ReferenceCachesIdeal.main_arg2)
      ∧ r.2.mem ((c.tc : Thread Cert.ReferenceCachesIdeal.nD Cert.ReferenceCachesIdeal.τ).loc Cert.ReferenceCachesIdeal.main_arg3) = m ((c.tc : Thread Cert.ReferenceCachesIdeal.nD Cert.ReferenceCachesIdeal.τ).loc Cert.ReferenceCachesIdeal.main_arg3)
      ∧ r.2.mem ((c.tc : Thread Cert.ReferenceCachesIdeal.nD Cert.ReferenceCachesIdeal.τ).loc Cert.ReferenceCachesIdeal.main_arg4) = m ((c.tc : Thread Cert.ReferenceCachesIdeal.nD Cert.ReferenceCachesIdeal.τ).loc Cert.ReferenceCachesIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def quiescent_KernelModA [hKernelModA : Cert.KernelModA.Facts] : Prop :=
  ∀ (m : (ℓ : Loc Cert.KernelModA.nD Cert.KernelModA.τ Cert.KernelModA.sig) → Buf (Elt Bits) ℓ) (g : Dev Cert.KernelModA.nD → PrngReg), Pre_KernelModA m →
    θ_run (Cert.KernelModA.defs (F := Bits)) (onTc (τ := Cert.KernelModA.τ) (Cert.KernelModA.main (F := Bits))) ⟨m, fun _ => 0, g⟩ (fun r => (∀ c : Dev Cert.KernelModA.nD,
      r.2.mem ((c.tc : Thread Cert.KernelModA.nD Cert.KernelModA.τ).loc Cert.KernelModA.main_arg0) = m ((c.tc : Thread Cert.KernelModA.nD Cert.KernelModA.τ).loc Cert.KernelModA.main_arg0)
      ∧ r.2.mem ((c.tc : Thread Cert.KernelModA.nD Cert.KernelModA.τ).loc Cert.KernelModA.main_arg1) = m ((c.tc : Thread Cert.KernelModA.nD Cert.KernelModA.τ).loc Cert.KernelModA.main_arg1)
      ∧ r.2.mem ((c.tc : Thread Cert.KernelModA.nD Cert.KernelModA.τ).loc Cert.KernelModA.main_arg2) = m ((c.tc : Thread Cert.KernelModA.nD Cert.KernelModA.τ).loc Cert.KernelModA.main_arg2))
      ∧ r.2.sem = fun _ => 0)

def quiescent_KernelModAIdeal [hKernelModAIdeal : Cert.KernelModAIdeal.Facts] : Prop :=
  ∀ (m : (ℓ : Loc Cert.KernelModAIdeal.nD Cert.KernelModAIdeal.τ Cert.KernelModAIdeal.sig) → Buf (Elt Ideal) ℓ) (g : Dev Cert.KernelModAIdeal.nD → PrngReg), Pre_KernelModAIdeal m →
    θ_run (Cert.KernelModAIdeal.defs (F := Ideal)) (onTc (τ := Cert.KernelModAIdeal.τ) (Cert.KernelModAIdeal.main (F := Ideal))) ⟨m, fun _ => 0, g⟩ (fun r => (∀ c : Dev Cert.KernelModAIdeal.nD,
      r.2.mem ((c.tc : Thread Cert.KernelModAIdeal.nD Cert.KernelModAIdeal.τ).loc Cert.KernelModAIdeal.main_arg0) = m ((c.tc : Thread Cert.KernelModAIdeal.nD Cert.KernelModAIdeal.τ).loc Cert.KernelModAIdeal.main_arg0)
      ∧ r.2.mem ((c.tc : Thread Cert.KernelModAIdeal.nD Cert.KernelModAIdeal.τ).loc Cert.KernelModAIdeal.main_arg1) = m ((c.tc : Thread Cert.KernelModAIdeal.nD Cert.KernelModAIdeal.τ).loc Cert.KernelModAIdeal.main_arg1)
      ∧ r.2.mem ((c.tc : Thread Cert.KernelModAIdeal.nD Cert.KernelModAIdeal.τ).loc Cert.KernelModAIdeal.main_arg2) = m ((c.tc : Thread Cert.KernelModAIdeal.nD Cert.KernelModAIdeal.τ).loc Cert.KernelModAIdeal.main_arg2))
      ∧ r.2.sem = fun _ => 0)

def quiescent_ReferenceModAIdeal [hReferenceModAIdeal : Cert.ReferenceModAIdeal.Facts] : Prop :=
  ∀ (m : (ℓ : Loc Cert.ReferenceModAIdeal.nD Cert.ReferenceModAIdeal.τ Cert.ReferenceModAIdeal.sig) → Buf (Elt Ideal) ℓ) (g : Dev Cert.ReferenceModAIdeal.nD → PrngReg), Pre_ReferenceModAIdeal m →
    θ_run (Cert.ReferenceModAIdeal.defs (F := Ideal)) (onTc (τ := Cert.ReferenceModAIdeal.τ) (Cert.ReferenceModAIdeal.main (F := Ideal))) ⟨m, fun _ => 0, g⟩ (fun r => (∀ c : Dev Cert.ReferenceModAIdeal.nD,
      r.2.mem ((c.tc : Thread Cert.ReferenceModAIdeal.nD Cert.ReferenceModAIdeal.τ).loc Cert.ReferenceModAIdeal.main_arg0) = m ((c.tc : Thread Cert.ReferenceModAIdeal.nD Cert.ReferenceModAIdeal.τ).loc Cert.ReferenceModAIdeal.main_arg0)
      ∧ r.2.mem ((c.tc : Thread Cert.ReferenceModAIdeal.nD Cert.ReferenceModAIdeal.τ).loc Cert.ReferenceModAIdeal.main_arg1) = m ((c.tc : Thread Cert.ReferenceModAIdeal.nD Cert.ReferenceModAIdeal.τ).loc Cert.ReferenceModAIdeal.main_arg1)
      ∧ r.2.mem ((c.tc : Thread Cert.ReferenceModAIdeal.nD Cert.ReferenceModAIdeal.τ).loc Cert.ReferenceModAIdeal.main_arg2) = m ((c.tc : Thread Cert.ReferenceModAIdeal.nD Cert.ReferenceModAIdeal.τ).loc Cert.ReferenceModAIdeal.main_arg2))
      ∧ r.2.sem = fun _ => 0)

def quiescent_KernelModB [hKernelModB : Cert.KernelModB.Facts] : Prop :=
  ∀ (m : (ℓ : Loc Cert.KernelModB.nD Cert.KernelModB.τ Cert.KernelModB.sig) → Buf (Elt Bits) ℓ) (g : Dev Cert.KernelModB.nD → PrngReg), Pre_KernelModB m →
    θ_run (Cert.KernelModB.defs (F := Bits)) (onTc (τ := Cert.KernelModB.τ) (Cert.KernelModB.main (F := Bits))) ⟨m, fun _ => 0, g⟩ (fun r => (∀ c : Dev Cert.KernelModB.nD,
      r.2.mem ((c.tc : Thread Cert.KernelModB.nD Cert.KernelModB.τ).loc Cert.KernelModB.main_arg0) = m ((c.tc : Thread Cert.KernelModB.nD Cert.KernelModB.τ).loc Cert.KernelModB.main_arg0)
      ∧ r.2.mem ((c.tc : Thread Cert.KernelModB.nD Cert.KernelModB.τ).loc Cert.KernelModB.main_arg1) = m ((c.tc : Thread Cert.KernelModB.nD Cert.KernelModB.τ).loc Cert.KernelModB.main_arg1)
      ∧ r.2.mem ((c.tc : Thread Cert.KernelModB.nD Cert.KernelModB.τ).loc Cert.KernelModB.main_arg2) = m ((c.tc : Thread Cert.KernelModB.nD Cert.KernelModB.τ).loc Cert.KernelModB.main_arg2))
      ∧ r.2.sem = fun _ => 0)

def quiescent_KernelModBIdeal [hKernelModBIdeal : Cert.KernelModBIdeal.Facts] : Prop :=
  ∀ (m : (ℓ : Loc Cert.KernelModBIdeal.nD Cert.KernelModBIdeal.τ Cert.KernelModBIdeal.sig) → Buf (Elt Ideal) ℓ) (g : Dev Cert.KernelModBIdeal.nD → PrngReg), Pre_KernelModBIdeal m →
    θ_run (Cert.KernelModBIdeal.defs (F := Ideal)) (onTc (τ := Cert.KernelModBIdeal.τ) (Cert.KernelModBIdeal.main (F := Ideal))) ⟨m, fun _ => 0, g⟩ (fun r => (∀ c : Dev Cert.KernelModBIdeal.nD,
      r.2.mem ((c.tc : Thread Cert.KernelModBIdeal.nD Cert.KernelModBIdeal.τ).loc Cert.KernelModBIdeal.main_arg0) = m ((c.tc : Thread Cert.KernelModBIdeal.nD Cert.KernelModBIdeal.τ).loc Cert.KernelModBIdeal.main_arg0)
      ∧ r.2.mem ((c.tc : Thread Cert.KernelModBIdeal.nD Cert.KernelModBIdeal.τ).loc Cert.KernelModBIdeal.main_arg1) = m ((c.tc : Thread Cert.KernelModBIdeal.nD Cert.KernelModBIdeal.τ).loc Cert.KernelModBIdeal.main_arg1)
      ∧ r.2.mem ((c.tc : Thread Cert.KernelModBIdeal.nD Cert.KernelModBIdeal.τ).loc Cert.KernelModBIdeal.main_arg2) = m ((c.tc : Thread Cert.KernelModBIdeal.nD Cert.KernelModBIdeal.τ).loc Cert.KernelModBIdeal.main_arg2))
      ∧ r.2.sem = fun _ => 0)

def quiescent_ReferenceModBIdeal [hReferenceModBIdeal : Cert.ReferenceModBIdeal.Facts] : Prop :=
  ∀ (m : (ℓ : Loc Cert.ReferenceModBIdeal.nD Cert.ReferenceModBIdeal.τ Cert.ReferenceModBIdeal.sig) → Buf (Elt Ideal) ℓ) (g : Dev Cert.ReferenceModBIdeal.nD → PrngReg), Pre_ReferenceModBIdeal m →
    θ_run (Cert.ReferenceModBIdeal.defs (F := Ideal)) (onTc (τ := Cert.ReferenceModBIdeal.τ) (Cert.ReferenceModBIdeal.main (F := Ideal))) ⟨m, fun _ => 0, g⟩ (fun r => (∀ c : Dev Cert.ReferenceModBIdeal.nD,
      r.2.mem ((c.tc : Thread Cert.ReferenceModBIdeal.nD Cert.ReferenceModBIdeal.τ).loc Cert.ReferenceModBIdeal.main_arg0) = m ((c.tc : Thread Cert.ReferenceModBIdeal.nD Cert.ReferenceModBIdeal.τ).loc Cert.ReferenceModBIdeal.main_arg0)
      ∧ r.2.mem ((c.tc : Thread Cert.ReferenceModBIdeal.nD Cert.ReferenceModBIdeal.τ).loc Cert.ReferenceModBIdeal.main_arg1) = m ((c.tc : Thread Cert.ReferenceModBIdeal.nD Cert.ReferenceModBIdeal.τ).loc Cert.ReferenceModBIdeal.main_arg1)
      ∧ r.2.mem ((c.tc : Thread Cert.ReferenceModBIdeal.nD Cert.ReferenceModBIdeal.τ).loc Cert.ReferenceModBIdeal.main_arg2) = m ((c.tc : Thread Cert.ReferenceModBIdeal.nD Cert.ReferenceModBIdeal.τ).loc Cert.ReferenceModBIdeal.main_arg2))
      ∧ r.2.sem = fun _ => 0)

def quiescent_KernelPrompt [hKernelPrompt : Cert.KernelPrompt.Facts] : Prop :=
  ∀ (m : (ℓ : Loc Cert.KernelPrompt.nD Cert.KernelPrompt.τ Cert.KernelPrompt.sig) → Buf (Elt Bits) ℓ) (g : Dev Cert.KernelPrompt.nD → PrngReg), Pre_KernelPrompt m →
    θ_run (Cert.KernelPrompt.defs (F := Bits)) (onTc (τ := Cert.KernelPrompt.τ) (Cert.KernelPrompt.main (F := Bits))) ⟨m, fun _ => 0, g⟩ (fun r => (∀ c : Dev Cert.KernelPrompt.nD,
      r.2.mem ((c.tc : Thread Cert.KernelPrompt.nD Cert.KernelPrompt.τ).loc Cert.KernelPrompt.main_arg0) = m ((c.tc : Thread Cert.KernelPrompt.nD Cert.KernelPrompt.τ).loc Cert.KernelPrompt.main_arg0)
      ∧ r.2.mem ((c.tc : Thread Cert.KernelPrompt.nD Cert.KernelPrompt.τ).loc Cert.KernelPrompt.main_arg1) = m ((c.tc : Thread Cert.KernelPrompt.nD Cert.KernelPrompt.τ).loc Cert.KernelPrompt.main_arg1))
      ∧ r.2.sem = fun _ => 0)

def quiescent_KernelPromptIdeal [hKernelPromptIdeal : Cert.KernelPromptIdeal.Facts] : Prop :=
  ∀ (m : (ℓ : Loc Cert.KernelPromptIdeal.nD Cert.KernelPromptIdeal.τ Cert.KernelPromptIdeal.sig) → Buf (Elt Ideal) ℓ) (g : Dev Cert.KernelPromptIdeal.nD → PrngReg), Pre_KernelPromptIdeal m →
    θ_run (Cert.KernelPromptIdeal.defs (F := Ideal)) (onTc (τ := Cert.KernelPromptIdeal.τ) (Cert.KernelPromptIdeal.main (F := Ideal))) ⟨m, fun _ => 0, g⟩ (fun r => (∀ c : Dev Cert.KernelPromptIdeal.nD,
      r.2.mem ((c.tc : Thread Cert.KernelPromptIdeal.nD Cert.KernelPromptIdeal.τ).loc Cert.KernelPromptIdeal.main_arg0) = m ((c.tc : Thread Cert.KernelPromptIdeal.nD Cert.KernelPromptIdeal.τ).loc Cert.KernelPromptIdeal.main_arg0)
      ∧ r.2.mem ((c.tc : Thread Cert.KernelPromptIdeal.nD Cert.KernelPromptIdeal.τ).loc Cert.KernelPromptIdeal.main_arg1) = m ((c.tc : Thread Cert.KernelPromptIdeal.nD Cert.KernelPromptIdeal.τ).loc Cert.KernelPromptIdeal.main_arg1))
      ∧ r.2.sem = fun _ => 0)

def quiescent_ReferencePromptIdeal [hReferencePromptIdeal : Cert.ReferencePromptIdeal.Facts] : Prop :=
  ∀ (m : (ℓ : Loc Cert.ReferencePromptIdeal.nD Cert.ReferencePromptIdeal.τ Cert.ReferencePromptIdeal.sig) → Buf (Elt Ideal) ℓ) (g : Dev Cert.ReferencePromptIdeal.nD → PrngReg), Pre_ReferencePromptIdeal m →
    θ_run (Cert.ReferencePromptIdeal.defs (F := Ideal)) (onTc (τ := Cert.ReferencePromptIdeal.τ) (Cert.ReferencePromptIdeal.main (F := Ideal))) ⟨m, fun _ => 0, g⟩ (fun r => (∀ c : Dev Cert.ReferencePromptIdeal.nD,
      r.2.mem ((c.tc : Thread Cert.ReferencePromptIdeal.nD Cert.ReferencePromptIdeal.τ).loc Cert.ReferencePromptIdeal.main_arg0) = m ((c.tc : Thread Cert.ReferencePromptIdeal.nD Cert.ReferencePromptIdeal.τ).loc Cert.ReferencePromptIdeal.main_arg0)
      ∧ r.2.mem ((c.tc : Thread Cert.ReferencePromptIdeal.nD Cert.ReferencePromptIdeal.τ).loc Cert.ReferencePromptIdeal.main_arg1) = m ((c.tc : Thread Cert.ReferencePromptIdeal.nD Cert.ReferencePromptIdeal.τ).loc Cert.ReferencePromptIdeal.main_arg1))
      ∧ r.2.sem = fun _ => 0)

def quiescent_KernelSample [hKernelSample : Cert.KernelSample.Facts] : Prop :=
  ∀ (m : (ℓ : Loc Cert.KernelSample.nD Cert.KernelSample.τ Cert.KernelSample.sig) → Buf (Elt Bits) ℓ) (g : Dev Cert.KernelSample.nD → PrngReg), Pre_KernelSample m →
    θ_run (Cert.KernelSample.defs (F := Bits)) (onTc (τ := Cert.KernelSample.τ) (Cert.KernelSample.main (F := Bits))) ⟨m, fun _ => 0, g⟩ (fun r => (∀ c : Dev Cert.KernelSample.nD,
      r.2.mem ((c.tc : Thread Cert.KernelSample.nD Cert.KernelSample.τ).loc Cert.KernelSample.main_arg0) = m ((c.tc : Thread Cert.KernelSample.nD Cert.KernelSample.τ).loc Cert.KernelSample.main_arg0)
      ∧ r.2.mem ((c.tc : Thread Cert.KernelSample.nD Cert.KernelSample.τ).loc Cert.KernelSample.main_arg1) = m ((c.tc : Thread Cert.KernelSample.nD Cert.KernelSample.τ).loc Cert.KernelSample.main_arg1))
      ∧ r.2.sem = fun _ => 0)

def quiescent_KernelSampleIdeal [hKernelSampleIdeal : Cert.KernelSampleIdeal.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1))
      ∧ r.2.sem = fun _ => 0)

def quiescent_ReferenceSampleIdeal [hReferenceSampleIdeal : Cert.ReferenceSampleIdeal.Facts] : Prop :=
  ∀ (m : (ℓ : Loc Cert.ReferenceSampleIdeal.nD Cert.ReferenceSampleIdeal.τ Cert.ReferenceSampleIdeal.sig) → Buf (Elt Ideal) ℓ) (g : Dev Cert.ReferenceSampleIdeal.nD → PrngReg), Pre_ReferenceSampleIdeal m →
    θ_run (Cert.ReferenceSampleIdeal.defs (F := Ideal)) (onTc (τ := Cert.ReferenceSampleIdeal.τ) (Cert.ReferenceSampleIdeal.main (F := Ideal))) ⟨m, fun _ => 0, g⟩ (fun r => (∀ c : Dev Cert.ReferenceSampleIdeal.nD,
      r.2.mem ((c.tc : Thread Cert.ReferenceSampleIdeal.nD Cert.ReferenceSampleIdeal.τ).loc Cert.ReferenceSampleIdeal.main_arg0) = m ((c.tc : Thread Cert.ReferenceSampleIdeal.nD Cert.ReferenceSampleIdeal.τ).loc Cert.ReferenceSampleIdeal.main_arg0)
      ∧ r.2.mem ((c.tc : Thread Cert.ReferenceSampleIdeal.nD Cert.ReferenceSampleIdeal.τ).loc Cert.ReferenceSampleIdeal.main_arg1) = m ((c.tc : Thread Cert.ReferenceSampleIdeal.nD Cert.ReferenceSampleIdeal.τ).loc Cert.ReferenceSampleIdeal.main_arg1))
      ∧ r.2.sem = fun _ => 0)

def quiescent_KernelSsdNorm [hKernelSsdNorm : Cert.KernelSsdNorm.Facts] : Prop :=
  ∀ (m : (ℓ : Loc Cert.KernelSsdNorm.nD Cert.KernelSsdNorm.τ Cert.KernelSsdNorm.sig) → Buf (Elt Bits) ℓ) (g : Dev Cert.KernelSsdNorm.nD → PrngReg), Pre_KernelSsdNorm m →
    θ_run (Cert.KernelSsdNorm.defs (F := Bits)) (onTc (τ := Cert.KernelSsdNorm.τ) (Cert.KernelSsdNorm.main (F := Bits))) ⟨m, fun _ => 0, g⟩ (fun r => (∀ c : Dev Cert.KernelSsdNorm.nD,
      r.2.mem ((c.tc : Thread Cert.KernelSsdNorm.nD Cert.KernelSsdNorm.τ).loc Cert.KernelSsdNorm.main_arg0) = m ((c.tc : Thread Cert.KernelSsdNorm.nD Cert.KernelSsdNorm.τ).loc Cert.KernelSsdNorm.main_arg0)
      ∧ r.2.mem ((c.tc : Thread Cert.KernelSsdNorm.nD Cert.KernelSsdNorm.τ).loc Cert.KernelSsdNorm.main_arg1) = m ((c.tc : Thread Cert.KernelSsdNorm.nD Cert.KernelSsdNorm.τ).loc Cert.KernelSsdNorm.main_arg1))
      ∧ r.2.sem = fun _ => 0)

def quiescent_KernelSsdNormIdeal [hKernelSsdNormIdeal : Cert.KernelSsdNormIdeal.Facts] : Prop :=
  ∀ (m : (ℓ : Loc Cert.KernelSsdNormIdeal.nD Cert.KernelSsdNormIdeal.τ Cert.KernelSsdNormIdeal.sig) → Buf (Elt Ideal) ℓ) (g : Dev Cert.KernelSsdNormIdeal.nD → PrngReg), Pre_KernelSsdNormIdeal m →
    θ_run (Cert.KernelSsdNormIdeal.defs (F := Ideal)) (onTc (τ := Cert.KernelSsdNormIdeal.τ) (Cert.KernelSsdNormIdeal.main (F := Ideal))) ⟨m, fun _ => 0, g⟩ (fun r => (∀ c : Dev Cert.KernelSsdNormIdeal.nD,
      r.2.mem ((c.tc : Thread Cert.KernelSsdNormIdeal.nD Cert.KernelSsdNormIdeal.τ).loc Cert.KernelSsdNormIdeal.main_arg0) = m ((c.tc : Thread Cert.KernelSsdNormIdeal.nD Cert.KernelSsdNormIdeal.τ).loc Cert.KernelSsdNormIdeal.main_arg0)
      ∧ r.2.mem ((c.tc : Thread Cert.KernelSsdNormIdeal.nD Cert.KernelSsdNormIdeal.τ).loc Cert.KernelSsdNormIdeal.main_arg1) = m ((c.tc : Thread Cert.KernelSsdNormIdeal.nD Cert.KernelSsdNormIdeal.τ).loc Cert.KernelSsdNormIdeal.main_arg1))
      ∧ r.2.sem = fun _ => 0)

def quiescent_ReferenceSsdNormIdeal [hReferenceSsdNormIdeal : Cert.ReferenceSsdNormIdeal.Facts] : Prop :=
  ∀ (m : (ℓ : Loc Cert.ReferenceSsdNormIdeal.nD Cert.ReferenceSsdNormIdeal.τ Cert.ReferenceSsdNormIdeal.sig) → Buf (Elt Ideal) ℓ) (g : Dev Cert.ReferenceSsdNormIdeal.nD → PrngReg), Pre_ReferenceSsdNormIdeal m →
    θ_run (Cert.ReferenceSsdNormIdeal.defs (F := Ideal)) (onTc (τ := Cert.ReferenceSsdNormIdeal.τ) (Cert.ReferenceSsdNormIdeal.main (F := Ideal))) ⟨m, fun _ => 0, g⟩ (fun r => (∀ c : Dev Cert.ReferenceSsdNormIdeal.nD,
      r.2.mem ((c.tc : Thread Cert.ReferenceSsdNormIdeal.nD Cert.ReferenceSsdNormIdeal.τ).loc Cert.ReferenceSsdNormIdeal.main_arg0) = m ((c.tc : Thread Cert.ReferenceSsdNormIdeal.nD Cert.ReferenceSsdNormIdeal.τ).loc Cert.ReferenceSsdNormIdeal.main_arg0)
      ∧ r.2.mem ((c.tc : Thread Cert.ReferenceSsdNormIdeal.nD Cert.ReferenceSsdNormIdeal.τ).loc Cert.ReferenceSsdNormIdeal.main_arg1) = m ((c.tc : Thread Cert.ReferenceSsdNormIdeal.nD Cert.ReferenceSsdNormIdeal.τ).loc Cert.ReferenceSsdNormIdeal.main_arg1))
      ∧ r.2.sem = fun _ => 0)

def quiescent_KernelHyNorm [hKernelHyNorm : Cert.KernelHyNorm.Facts] : Prop :=
  ∀ (m : (ℓ : Loc Cert.KernelHyNorm.nD Cert.KernelHyNorm.τ Cert.KernelHyNorm.sig) → Buf (Elt Bits) ℓ) (g : Dev Cert.KernelHyNorm.nD → PrngReg), Pre_KernelHyNorm m →
    θ_run (Cert.KernelHyNorm.defs (F := Bits)) (onTc (τ := Cert.KernelHyNorm.τ) (Cert.KernelHyNorm.main (F := Bits))) ⟨m, fun _ => 0, g⟩ (fun r => (∀ c : Dev Cert.KernelHyNorm.nD,
      r.2.mem ((c.tc : Thread Cert.KernelHyNorm.nD Cert.KernelHyNorm.τ).loc Cert.KernelHyNorm.main_arg0) = m ((c.tc : Thread Cert.KernelHyNorm.nD Cert.KernelHyNorm.τ).loc Cert.KernelHyNorm.main_arg0)
      ∧ r.2.mem ((c.tc : Thread Cert.KernelHyNorm.nD Cert.KernelHyNorm.τ).loc Cert.KernelHyNorm.main_arg1) = m ((c.tc : Thread Cert.KernelHyNorm.nD Cert.KernelHyNorm.τ).loc Cert.KernelHyNorm.main_arg1))
      ∧ r.2.sem = fun _ => 0)

def quiescent_KernelHyNormIdeal [hKernelHyNormIdeal : Cert.KernelHyNormIdeal.Facts] : Prop :=
  ∀ (m : (ℓ : Loc Cert.KernelHyNormIdeal.nD Cert.KernelHyNormIdeal.τ Cert.KernelHyNormIdeal.sig) → Buf (Elt Ideal) ℓ) (g : Dev Cert.KernelHyNormIdeal.nD → PrngReg), Pre_KernelHyNormIdeal m →
    θ_run (Cert.KernelHyNormIdeal.defs (F := Ideal)) (onTc (τ := Cert.KernelHyNormIdeal.τ) (Cert.KernelHyNormIdeal.main (F := Ideal))) ⟨m, fun _ => 0, g⟩ (fun r => (∀ c : Dev Cert.KernelHyNormIdeal.nD,
      r.2.mem ((c.tc : Thread Cert.KernelHyNormIdeal.nD Cert.KernelHyNormIdeal.τ).loc Cert.KernelHyNormIdeal.main_arg0) = m ((c.tc : Thread Cert.KernelHyNormIdeal.nD Cert.KernelHyNormIdeal.τ).loc Cert.KernelHyNormIdeal.main_arg0)
      ∧ r.2.mem ((c.tc : Thread Cert.KernelHyNormIdeal.nD Cert.KernelHyNormIdeal.τ).loc Cert.KernelHyNormIdeal.main_arg1) = m ((c.tc : Thread Cert.KernelHyNormIdeal.nD Cert.KernelHyNormIdeal.τ).loc Cert.KernelHyNormIdeal.main_arg1))
      ∧ r.2.sem = fun _ => 0)

def quiescent_ReferenceHyNormIdeal [hReferenceHyNormIdeal : Cert.ReferenceHyNormIdeal.Facts] : Prop :=
  ∀ (m : (ℓ : Loc Cert.ReferenceHyNormIdeal.nD Cert.ReferenceHyNormIdeal.τ Cert.ReferenceHyNormIdeal.sig) → Buf (Elt Ideal) ℓ) (g : Dev Cert.ReferenceHyNormIdeal.nD → PrngReg), Pre_ReferenceHyNormIdeal m →
    θ_run (Cert.ReferenceHyNormIdeal.defs (F := Ideal)) (onTc (τ := Cert.ReferenceHyNormIdeal.τ) (Cert.ReferenceHyNormIdeal.main (F := Ideal))) ⟨m, fun _ => 0, g⟩ (fun r => (∀ c : Dev Cert.ReferenceHyNormIdeal.nD,
      r.2.mem ((c.tc : Thread Cert.ReferenceHyNormIdeal.nD Cert.ReferenceHyNormIdeal.τ).loc Cert.ReferenceHyNormIdeal.main_arg0) = m ((c.tc : Thread Cert.ReferenceHyNormIdeal.nD Cert.ReferenceHyNormIdeal.τ).loc Cert.ReferenceHyNormIdeal.main_arg0)
      ∧ r.2.mem ((c.tc : Thread Cert.ReferenceHyNormIdeal.nD Cert.ReferenceHyNormIdeal.τ).loc Cert.ReferenceHyNormIdeal.main_arg1) = m ((c.tc : Thread Cert.ReferenceHyNormIdeal.nD Cert.ReferenceHyNormIdeal.τ).loc Cert.ReferenceHyNormIdeal.main_arg1))
      ∧ r.2.sem = fun _ => 0)

def preserves_KernelAtt_KernelAttIdeal : Prop :=
  True

def algebraic_KernelAttIdeal_ReferenceAttIdeal_pre_queries_keys_finite [hKernelAttIdeal : Cert.KernelAttIdeal.Facts] [hReferenceAttIdeal : Cert.ReferenceAttIdeal.Facts] [hPre_queries_keys_finite : Cert.Pre_queries_keys_finite.Facts] : Prop :=
  ∀ (m : (ℓ : Loc Cert.KernelAttIdeal.nD Cert.KernelAttIdeal.τ Cert.KernelAttIdeal.sig) → Buf (Elt Ideal) ℓ) (g : Dev Cert.KernelAttIdeal.nD → PrngReg)
    (m' : (ℓ : Loc Cert.ReferenceAttIdeal.nD Cert.ReferenceAttIdeal.τ Cert.ReferenceAttIdeal.sig) → Buf (Elt Ideal) ℓ) (g' : Dev Cert.ReferenceAttIdeal.nD → PrngReg), Pre_KernelAttIdeal_queries_keys_finite m →
    (∀ c : Dev Cert.KernelAttIdeal.nD,
      m' ((c.tc : Thread Cert.ReferenceAttIdeal.nD Cert.ReferenceAttIdeal.τ).loc Cert.ReferenceAttIdeal.main_arg0) = m ((c.tc : Thread Cert.KernelAttIdeal.nD Cert.KernelAttIdeal.τ).loc Cert.KernelAttIdeal.main_arg0)
      ∧ m' ((c.tc : Thread Cert.ReferenceAttIdeal.nD Cert.ReferenceAttIdeal.τ).loc Cert.ReferenceAttIdeal.main_arg1) = m ((c.tc : Thread Cert.KernelAttIdeal.nD Cert.KernelAttIdeal.τ).loc Cert.KernelAttIdeal.main_arg1)
      ∧ m' ((c.tc : Thread Cert.ReferenceAttIdeal.nD Cert.ReferenceAttIdeal.τ).loc Cert.ReferenceAttIdeal.main_arg2) = m ((c.tc : Thread Cert.KernelAttIdeal.nD Cert.KernelAttIdeal.τ).loc Cert.KernelAttIdeal.main_arg2)) →
    ∃ (v0 : (c : Dev Cert.KernelAttIdeal.nD) → Buf (Elt Ideal) ((c.tc : Thread Cert.KernelAttIdeal.nD Cert.KernelAttIdeal.τ).loc Cert.KernelAttIdeal.main_v1)),
      θ_run (Cert.KernelAttIdeal.defs (F := Ideal)) (onTc (τ := Cert.KernelAttIdeal.τ) (Cert.KernelAttIdeal.main (F := Ideal))) ⟨m, fun _ => 0, g⟩ (fun r => ∀ c : Dev Cert.KernelAttIdeal.nD,
          r.2.mem ((c.tc : Thread Cert.KernelAttIdeal.nD Cert.KernelAttIdeal.τ).loc Cert.KernelAttIdeal.main_v1) = v0 c
          ∧ r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
          ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
          ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2))
      ∧ θ_run (Cert.ReferenceAttIdeal.defs (F := Ideal)) (onTc (τ := Cert.ReferenceAttIdeal.τ) (Cert.ReferenceAttIdeal.main (F := Ideal))) ⟨m', fun _ => 0, g'⟩ (fun r => ∀ c : Dev Cert.ReferenceAttIdeal.nD,
          r.2.mem ((c.tc : Thread Cert.ReferenceAttIdeal.nD Cert.ReferenceAttIdeal.τ).loc Cert.ReferenceAttIdeal.main_v61) = v0 c
          ∧ r.2.mem ((c.tc : Thread Cert.ReferenceAttIdeal.nD Cert.ReferenceAttIdeal.τ).loc Cert.ReferenceAttIdeal.main_arg0) = m' ((c.tc : Thread Cert.ReferenceAttIdeal.nD Cert.ReferenceAttIdeal.τ).loc Cert.ReferenceAttIdeal.main_arg0)
          ∧ r.2.mem ((c.tc : Thread Cert.ReferenceAttIdeal.nD Cert.ReferenceAttIdeal.τ).loc Cert.ReferenceAttIdeal.main_arg1) = m' ((c.tc : Thread Cert.ReferenceAttIdeal.nD Cert.ReferenceAttIdeal.τ).loc Cert.ReferenceAttIdeal.main_arg1)
          ∧ r.2.mem ((c.tc : Thread Cert.ReferenceAttIdeal.nD Cert.ReferenceAttIdeal.τ).loc Cert.ReferenceAttIdeal.main_arg2) = m' ((c.tc : Thread Cert.ReferenceAttIdeal.nD Cert.ReferenceAttIdeal.τ).loc Cert.ReferenceAttIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v3)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v65) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v22) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v2) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelCaches_KernelCachesIdeal : Prop :=
  True

def algebraic_KernelCachesIdeal_ReferenceCachesIdeal [hKernelCachesIdeal : Cert.KernelCachesIdeal.Facts] [hReferenceCachesIdeal : Cert.ReferenceCachesIdeal.Facts] : Prop :=
  ∀ (m : (ℓ : Loc Cert.KernelCachesIdeal.nD Cert.KernelCachesIdeal.τ Cert.KernelCachesIdeal.sig) → Buf (Elt Ideal) ℓ) (g : Dev Cert.KernelCachesIdeal.nD → PrngReg)
    (m' : (ℓ : Loc Cert.ReferenceCachesIdeal.nD Cert.ReferenceCachesIdeal.τ Cert.ReferenceCachesIdeal.sig) → Buf (Elt Ideal) ℓ) (g' : Dev Cert.ReferenceCachesIdeal.nD → PrngReg), Pre_KernelCachesIdeal m →
    (∀ c : Dev Cert.KernelCachesIdeal.nD,
      m' ((c.tc : Thread Cert.ReferenceCachesIdeal.nD Cert.ReferenceCachesIdeal.τ).loc Cert.ReferenceCachesIdeal.main_arg0) = m ((c.tc : Thread Cert.KernelCachesIdeal.nD Cert.KernelCachesIdeal.τ).loc Cert.KernelCachesIdeal.main_arg0)
      ∧ m' ((c.tc : Thread Cert.ReferenceCachesIdeal.nD Cert.ReferenceCachesIdeal.τ).loc Cert.ReferenceCachesIdeal.main_arg1) = m ((c.tc : Thread Cert.KernelCachesIdeal.nD Cert.KernelCachesIdeal.τ).loc Cert.KernelCachesIdeal.main_arg1)
      ∧ m' ((c.tc : Thread Cert.ReferenceCachesIdeal.nD Cert.ReferenceCachesIdeal.τ).loc Cert.ReferenceCachesIdeal.main_arg2) = m ((c.tc : Thread Cert.KernelCachesIdeal.nD Cert.KernelCachesIdeal.τ).loc Cert.KernelCachesIdeal.main_arg2)
      ∧ m' ((c.tc : Thread Cert.ReferenceCachesIdeal.nD Cert.ReferenceCachesIdeal.τ).loc Cert.ReferenceCachesIdeal.main_arg3) = m ((c.tc : Thread Cert.KernelCachesIdeal.nD Cert.KernelCachesIdeal.τ).loc Cert.KernelCachesIdeal.main_arg3)
      ∧ m' ((c.tc : Thread Cert.ReferenceCachesIdeal.nD Cert.ReferenceCachesIdeal.τ).loc Cert.ReferenceCachesIdeal.main_arg4) = m ((c.tc : Thread Cert.KernelCachesIdeal.nD Cert.KernelCachesIdeal.τ).loc Cert.KernelCachesIdeal.main_arg4)) →
    ∃ (v0 : (c : Dev Cert.KernelCachesIdeal.nD) → Buf (Elt Ideal) ((c.tc : Thread Cert.KernelCachesIdeal.nD Cert.KernelCachesIdeal.τ).loc Cert.KernelCachesIdeal.main_v37)) (v1 : (c : Dev Cert.KernelCachesIdeal.nD) → Buf (Elt Ideal) ((c.tc : Thread Cert.KernelCachesIdeal.nD Cert.KernelCachesIdeal.τ).loc Cert.KernelCachesIdeal.main_v43)),
      θ_run (Cert.KernelCachesIdeal.defs (F := Ideal)) (onTc (τ := Cert.KernelCachesIdeal.τ) (Cert.KernelCachesIdeal.main (F := Ideal))) ⟨m, fun _ => 0, g⟩ (fun r => ∀ c : Dev Cert.KernelCachesIdeal.nD,
          r.2.mem ((c.tc : Thread Cert.KernelCachesIdeal.nD Cert.KernelCachesIdeal.τ).loc Cert.KernelCachesIdeal.main_v37) = v0 c
          ∧ r.2.mem ((c.tc : Thread Cert.KernelCachesIdeal.nD Cert.KernelCachesIdeal.τ).loc Cert.KernelCachesIdeal.main_v43) = v1 c
          ∧ r.2.mem ((c.tc : Thread Cert.KernelCachesIdeal.nD Cert.KernelCachesIdeal.τ).loc Cert.KernelCachesIdeal.main_arg0) = m ((c.tc : Thread Cert.KernelCachesIdeal.nD Cert.KernelCachesIdeal.τ).loc Cert.KernelCachesIdeal.main_arg0)
          ∧ r.2.mem ((c.tc : Thread Cert.KernelCachesIdeal.nD Cert.KernelCachesIdeal.τ).loc Cert.KernelCachesIdeal.main_arg1) = m ((c.tc : Thread Cert.KernelCachesIdeal.nD Cert.KernelCachesIdeal.τ).loc Cert.KernelCachesIdeal.main_arg1)
          ∧ r.2.mem ((c.tc : Thread Cert.KernelCachesIdeal.nD Cert.KernelCachesIdeal.τ).loc Cert.KernelCachesIdeal.main_arg2) = m ((c.tc : Thread Cert.KernelCachesIdeal.nD Cert.KernelCachesIdeal.τ).loc Cert.KernelCachesIdeal.main_arg2)
          ∧ r.2.mem ((c.tc : Thread Cert.KernelCachesIdeal.nD Cert.KernelCachesIdeal.τ).loc Cert.KernelCachesIdeal.main_arg3) = m ((c.tc : Thread Cert.KernelCachesIdeal.nD Cert.KernelCachesIdeal.τ).loc Cert.KernelCachesIdeal.main_arg3)
          ∧ r.2.mem ((c.tc : Thread Cert.KernelCachesIdeal.nD Cert.KernelCachesIdeal.τ).loc Cert.KernelCachesIdeal.main_arg4) = m ((c.tc : Thread Cert.KernelCachesIdeal.nD Cert.KernelCachesIdeal.τ).loc Cert.KernelCachesIdeal.main_arg4))
      ∧ θ_run (Cert.ReferenceCachesIdeal.defs (F := Ideal)) (onTc (τ := Cert.ReferenceCachesIdeal.τ) (Cert.ReferenceCachesIdeal.main (F := Ideal))) ⟨m', fun _ => 0, g'⟩ (fun r => ∀ c : Dev Cert.ReferenceCachesIdeal.nD,
          r.2.mem ((c.tc : Thread Cert.ReferenceCachesIdeal.nD Cert.ReferenceCachesIdeal.τ).loc Cert.ReferenceCachesIdeal.main_v52) = v0 c
          ∧ r.2.mem ((c.tc : Thread Cert.ReferenceCachesIdeal.nD Cert.ReferenceCachesIdeal.τ).loc Cert.ReferenceCachesIdeal.main_v57) = v1 c
          ∧ r.2.mem ((c.tc : Thread Cert.ReferenceCachesIdeal.nD Cert.ReferenceCachesIdeal.τ).loc Cert.ReferenceCachesIdeal.main_arg0) = m' ((c.tc : Thread Cert.ReferenceCachesIdeal.nD Cert.ReferenceCachesIdeal.τ).loc Cert.ReferenceCachesIdeal.main_arg0)
          ∧ r.2.mem ((c.tc : Thread Cert.ReferenceCachesIdeal.nD Cert.ReferenceCachesIdeal.τ).loc Cert.ReferenceCachesIdeal.main_arg1) = m' ((c.tc : Thread Cert.ReferenceCachesIdeal.nD Cert.ReferenceCachesIdeal.τ).loc Cert.ReferenceCachesIdeal.main_arg1)
          ∧ r.2.mem ((c.tc : Thread Cert.ReferenceCachesIdeal.nD Cert.ReferenceCachesIdeal.τ).loc Cert.ReferenceCachesIdeal.main_arg2) = m' ((c.tc : Thread Cert.ReferenceCachesIdeal.nD Cert.ReferenceCachesIdeal.τ).loc Cert.ReferenceCachesIdeal.main_arg2)
          ∧ r.2.mem ((c.tc : Thread Cert.ReferenceCachesIdeal.nD Cert.ReferenceCachesIdeal.τ).loc Cert.ReferenceCachesIdeal.main_arg3) = m' ((c.tc : Thread Cert.ReferenceCachesIdeal.nD Cert.ReferenceCachesIdeal.τ).loc Cert.ReferenceCachesIdeal.main_arg3)
          ∧ r.2.mem ((c.tc : Thread Cert.ReferenceCachesIdeal.nD Cert.ReferenceCachesIdeal.τ).loc Cert.ReferenceCachesIdeal.main_arg4) = m' ((c.tc : Thread Cert.ReferenceCachesIdeal.nD Cert.ReferenceCachesIdeal.τ).loc Cert.ReferenceCachesIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v22) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)) →
    ∃ (v0 : (c : Dev Cert.KernelAdaIdeal.nD) → Buf (Elt Ideal) ((c.tc : Thread Cert.KernelAdaIdeal.nD Cert.KernelAdaIdeal.τ).loc Cert.KernelAdaIdeal.main_v1)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v1) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v37) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2))

def preserves_KernelModA_KernelModAIdeal : Prop :=
  True

def algebraic_KernelModAIdeal_ReferenceModAIdeal [hKernelModAIdeal : Cert.KernelModAIdeal.Facts] [hReferenceModAIdeal : Cert.ReferenceModAIdeal.Facts] : Prop :=
  ∀ (m : (ℓ : Loc Cert.KernelModAIdeal.nD Cert.KernelModAIdeal.τ Cert.KernelModAIdeal.sig) → Buf (Elt Ideal) ℓ) (g : Dev Cert.KernelModAIdeal.nD → PrngReg)
    (m' : (ℓ : Loc Cert.ReferenceModAIdeal.nD Cert.ReferenceModAIdeal.τ Cert.ReferenceModAIdeal.sig) → Buf (Elt Ideal) ℓ) (g' : Dev Cert.ReferenceModAIdeal.nD → PrngReg), Pre_KernelModAIdeal m →
    (∀ c : Dev Cert.KernelModAIdeal.nD,
      m' ((c.tc : Thread Cert.ReferenceModAIdeal.nD Cert.ReferenceModAIdeal.τ).loc Cert.ReferenceModAIdeal.main_arg0) = m ((c.tc : Thread Cert.KernelModAIdeal.nD Cert.KernelModAIdeal.τ).loc Cert.KernelModAIdeal.main_arg0)
      ∧ m' ((c.tc : Thread Cert.ReferenceModAIdeal.nD Cert.ReferenceModAIdeal.τ).loc Cert.ReferenceModAIdeal.main_arg1) = m ((c.tc : Thread Cert.KernelModAIdeal.nD Cert.KernelModAIdeal.τ).loc Cert.KernelModAIdeal.main_arg1)
      ∧ m' ((c.tc : Thread Cert.ReferenceModAIdeal.nD Cert.ReferenceModAIdeal.τ).loc Cert.ReferenceModAIdeal.main_arg2) = m ((c.tc : Thread Cert.KernelModAIdeal.nD Cert.KernelModAIdeal.τ).loc Cert.KernelModAIdeal.main_arg2)) →
    ∃ (v0 : (c : Dev Cert.KernelModAIdeal.nD) → Buf (Elt Ideal) ((c.tc : Thread Cert.KernelModAIdeal.nD Cert.KernelModAIdeal.τ).loc Cert.KernelModAIdeal.main_v1)),
      θ_run (Cert.KernelModAIdeal.defs (F := Ideal)) (onTc (τ := Cert.KernelModAIdeal.τ) (Cert.KernelModAIdeal.main (F := Ideal))) ⟨m, fun _ => 0, g⟩ (fun r => ∀ c : Dev Cert.KernelModAIdeal.nD,
          r.2.mem ((c.tc : Thread Cert.KernelModAIdeal.nD Cert.KernelModAIdeal.τ).loc Cert.KernelModAIdeal.main_v1) = v0 c
          ∧ r.2.mem ((c.tc : Thread Cert.KernelModAIdeal.nD Cert.KernelModAIdeal.τ).loc Cert.KernelModAIdeal.main_arg0) = m ((c.tc : Thread Cert.KernelModAIdeal.nD Cert.KernelModAIdeal.τ).loc Cert.KernelModAIdeal.main_arg0)
          ∧ r.2.mem ((c.tc : Thread Cert.KernelModAIdeal.nD Cert.KernelModAIdeal.τ).loc Cert.KernelModAIdeal.main_arg1) = m ((c.tc : Thread Cert.KernelModAIdeal.nD Cert.KernelModAIdeal.τ).loc Cert.KernelModAIdeal.main_arg1)
          ∧ r.2.mem ((c.tc : Thread Cert.KernelModAIdeal.nD Cert.KernelModAIdeal.τ).loc Cert.KernelModAIdeal.main_arg2) = m ((c.tc : Thread Cert.KernelModAIdeal.nD Cert.KernelModAIdeal.τ).loc Cert.KernelModAIdeal.main_arg2))
      ∧ θ_run (Cert.ReferenceModAIdeal.defs (F := Ideal)) (onTc (τ := Cert.ReferenceModAIdeal.τ) (Cert.ReferenceModAIdeal.main (F := Ideal))) ⟨m', fun _ => 0, g'⟩ (fun r => ∀ c : Dev Cert.ReferenceModAIdeal.nD,
          r.2.mem ((c.tc : Thread Cert.ReferenceModAIdeal.nD Cert.ReferenceModAIdeal.τ).loc Cert.ReferenceModAIdeal.main_v40) = v0 c
          ∧ r.2.mem ((c.tc : Thread Cert.ReferenceModAIdeal.nD Cert.ReferenceModAIdeal.τ).loc Cert.ReferenceModAIdeal.main_arg0) = m' ((c.tc : Thread Cert.ReferenceModAIdeal.nD Cert.ReferenceModAIdeal.τ).loc Cert.ReferenceModAIdeal.main_arg0)
          ∧ r.2.mem ((c.tc : Thread Cert.ReferenceModAIdeal.nD Cert.ReferenceModAIdeal.τ).loc Cert.ReferenceModAIdeal.main_arg1) = m' ((c.tc : Thread Cert.ReferenceModAIdeal.nD Cert.ReferenceModAIdeal.τ).loc Cert.ReferenceModAIdeal.main_arg1)
          ∧ r.2.mem ((c.tc : Thread Cert.ReferenceModAIdeal.nD Cert.ReferenceModAIdeal.τ).loc Cert.ReferenceModAIdeal.main_arg2) = m' ((c.tc : Thread Cert.ReferenceModAIdeal.nD Cert.ReferenceModAIdeal.τ).loc Cert.ReferenceModAIdeal.main_arg2))

def preserves_KernelModB_KernelModBIdeal : Prop :=
  True

def algebraic_KernelModBIdeal_ReferenceModBIdeal [hKernelModBIdeal : Cert.KernelModBIdeal.Facts] [hReferenceModBIdeal : Cert.ReferenceModBIdeal.Facts] : Prop :=
  ∀ (m : (ℓ : Loc Cert.KernelModBIdeal.nD Cert.KernelModBIdeal.τ Cert.KernelModBIdeal.sig) → Buf (Elt Ideal) ℓ) (g : Dev Cert.KernelModBIdeal.nD → PrngReg)
    (m' : (ℓ : Loc Cert.ReferenceModBIdeal.nD Cert.ReferenceModBIdeal.τ Cert.ReferenceModBIdeal.sig) → Buf (Elt Ideal) ℓ) (g' : Dev Cert.ReferenceModBIdeal.nD → PrngReg), Pre_KernelModBIdeal m →
    (∀ c : Dev Cert.KernelModBIdeal.nD,
      m' ((c.tc : Thread Cert.ReferenceModBIdeal.nD Cert.ReferenceModBIdeal.τ).loc Cert.ReferenceModBIdeal.main_arg0) = m ((c.tc : Thread Cert.KernelModBIdeal.nD Cert.KernelModBIdeal.τ).loc Cert.KernelModBIdeal.main_arg0)
      ∧ m' ((c.tc : Thread Cert.ReferenceModBIdeal.nD Cert.ReferenceModBIdeal.τ).loc Cert.ReferenceModBIdeal.main_arg1) = m ((c.tc : Thread Cert.KernelModBIdeal.nD Cert.KernelModBIdeal.τ).loc Cert.KernelModBIdeal.main_arg1)
      ∧ m' ((c.tc : Thread Cert.ReferenceModBIdeal.nD Cert.ReferenceModBIdeal.τ).loc Cert.ReferenceModBIdeal.main_arg2) = m ((c.tc : Thread Cert.KernelModBIdeal.nD Cert.KernelModBIdeal.τ).loc Cert.KernelModBIdeal.main_arg2)) →
    ∃ (v0 : (c : Dev Cert.KernelModBIdeal.nD) → Buf (Elt Ideal) ((c.tc : Thread Cert.KernelModBIdeal.nD Cert.KernelModBIdeal.τ).loc Cert.KernelModBIdeal.main_v1)),
      θ_run (Cert.KernelModBIdeal.defs (F := Ideal)) (onTc (τ := Cert.KernelModBIdeal.τ) (Cert.KernelModBIdeal.main (F := Ideal))) ⟨m, fun _ => 0, g⟩ (fun r => ∀ c : Dev Cert.KernelModBIdeal.nD,
          r.2.mem ((c.tc : Thread Cert.KernelModBIdeal.nD Cert.KernelModBIdeal.τ).loc Cert.KernelModBIdeal.main_v1) = v0 c
          ∧ r.2.mem ((c.tc : Thread Cert.KernelModBIdeal.nD Cert.KernelModBIdeal.τ).loc Cert.KernelModBIdeal.main_arg0) = m ((c.tc : Thread Cert.KernelModBIdeal.nD Cert.KernelModBIdeal.τ).loc Cert.KernelModBIdeal.main_arg0)
          ∧ r.2.mem ((c.tc : Thread Cert.KernelModBIdeal.nD Cert.KernelModBIdeal.τ).loc Cert.KernelModBIdeal.main_arg1) = m ((c.tc : Thread Cert.KernelModBIdeal.nD Cert.KernelModBIdeal.τ).loc Cert.KernelModBIdeal.main_arg1)
          ∧ r.2.mem ((c.tc : Thread Cert.KernelModBIdeal.nD Cert.KernelModBIdeal.τ).loc Cert.KernelModBIdeal.main_arg2) = m ((c.tc : Thread Cert.KernelModBIdeal.nD Cert.KernelModBIdeal.τ).loc Cert.KernelModBIdeal.main_arg2))
      ∧ θ_run (Cert.ReferenceModBIdeal.defs (F := Ideal)) (onTc (τ := Cert.ReferenceModBIdeal.τ) (Cert.ReferenceModBIdeal.main (F := Ideal))) ⟨m', fun _ => 0, g'⟩ (fun r => ∀ c : Dev Cert.ReferenceModBIdeal.nD,
          r.2.mem ((c.tc : Thread Cert.ReferenceModBIdeal.nD Cert.ReferenceModBIdeal.τ).loc Cert.ReferenceModBIdeal.main_v40) = v0 c
          ∧ r.2.mem ((c.tc : Thread Cert.ReferenceModBIdeal.nD Cert.ReferenceModBIdeal.τ).loc Cert.ReferenceModBIdeal.main_arg0) = m' ((c.tc : Thread Cert.ReferenceModBIdeal.nD Cert.ReferenceModBIdeal.τ).loc Cert.ReferenceModBIdeal.main_arg0)
          ∧ r.2.mem ((c.tc : Thread Cert.ReferenceModBIdeal.nD Cert.ReferenceModBIdeal.τ).loc Cert.ReferenceModBIdeal.main_arg1) = m' ((c.tc : Thread Cert.ReferenceModBIdeal.nD Cert.ReferenceModBIdeal.τ).loc Cert.ReferenceModBIdeal.main_arg1)
          ∧ r.2.mem ((c.tc : Thread Cert.ReferenceModBIdeal.nD Cert.ReferenceModBIdeal.τ).loc Cert.ReferenceModBIdeal.main_arg2) = m' ((c.tc : Thread Cert.ReferenceModBIdeal.nD Cert.ReferenceModBIdeal.τ).loc Cert.ReferenceModBIdeal.main_arg2))

def preserves_KernelPrompt_KernelPromptIdeal : Prop :=
  True

def algebraic_KernelPromptIdeal_ReferencePromptIdeal [hKernelPromptIdeal : Cert.KernelPromptIdeal.Facts] [hReferencePromptIdeal : Cert.ReferencePromptIdeal.Facts] : Prop :=
  ∀ (m : (ℓ : Loc Cert.KernelPromptIdeal.nD Cert.KernelPromptIdeal.τ Cert.KernelPromptIdeal.sig) → Buf (Elt Ideal) ℓ) (g : Dev Cert.KernelPromptIdeal.nD → PrngReg)
    (m' : (ℓ : Loc Cert.ReferencePromptIdeal.nD Cert.ReferencePromptIdeal.τ Cert.ReferencePromptIdeal.sig) → Buf (Elt Ideal) ℓ) (g' : Dev Cert.ReferencePromptIdeal.nD → PrngReg), Pre_KernelPromptIdeal m →
    (∀ c : Dev Cert.KernelPromptIdeal.nD,
      m' ((c.tc : Thread Cert.ReferencePromptIdeal.nD Cert.ReferencePromptIdeal.τ).loc Cert.ReferencePromptIdeal.main_arg0) = m ((c.tc : Thread Cert.KernelPromptIdeal.nD Cert.KernelPromptIdeal.τ).loc Cert.KernelPromptIdeal.main_arg0)
      ∧ m' ((c.tc : Thread Cert.ReferencePromptIdeal.nD Cert.ReferencePromptIdeal.τ).loc Cert.ReferencePromptIdeal.main_arg1) = m ((c.tc : Thread Cert.KernelPromptIdeal.nD Cert.KernelPromptIdeal.τ).loc Cert.KernelPromptIdeal.main_arg1)) →
    ∃ (v0 : (c : Dev Cert.KernelPromptIdeal.nD) → Buf (Elt Ideal) ((c.tc : Thread Cert.KernelPromptIdeal.nD Cert.KernelPromptIdeal.τ).loc Cert.KernelPromptIdeal.main_v2)),
      θ_run (Cert.KernelPromptIdeal.defs (F := Ideal)) (onTc (τ := Cert.KernelPromptIdeal.τ) (Cert.KernelPromptIdeal.main (F := Ideal))) ⟨m, fun _ => 0, g⟩ (fun r => ∀ c : Dev Cert.KernelPromptIdeal.nD,
          r.2.mem ((c.tc : Thread Cert.KernelPromptIdeal.nD Cert.KernelPromptIdeal.τ).loc Cert.KernelPromptIdeal.main_v2) = v0 c
          ∧ r.2.mem ((c.tc : Thread Cert.KernelPromptIdeal.nD Cert.KernelPromptIdeal.τ).loc Cert.KernelPromptIdeal.main_arg0) = m ((c.tc : Thread Cert.KernelPromptIdeal.nD Cert.KernelPromptIdeal.τ).loc Cert.KernelPromptIdeal.main_arg0)
          ∧ r.2.mem ((c.tc : Thread Cert.KernelPromptIdeal.nD Cert.KernelPromptIdeal.τ).loc Cert.KernelPromptIdeal.main_arg1) = m ((c.tc : Thread Cert.KernelPromptIdeal.nD Cert.KernelPromptIdeal.τ).loc Cert.KernelPromptIdeal.main_arg1))
      ∧ θ_run (Cert.ReferencePromptIdeal.defs (F := Ideal)) (onTc (τ := Cert.ReferencePromptIdeal.τ) (Cert.ReferencePromptIdeal.main (F := Ideal))) ⟨m', fun _ => 0, g'⟩ (fun r => ∀ c : Dev Cert.ReferencePromptIdeal.nD,
          r.2.mem ((c.tc : Thread Cert.ReferencePromptIdeal.nD Cert.ReferencePromptIdeal.τ).loc Cert.ReferencePromptIdeal.main_v14) = v0 c
          ∧ r.2.mem ((c.tc : Thread Cert.ReferencePromptIdeal.nD Cert.ReferencePromptIdeal.τ).loc Cert.ReferencePromptIdeal.main_arg0) = m' ((c.tc : Thread Cert.ReferencePromptIdeal.nD Cert.ReferencePromptIdeal.τ).loc Cert.ReferencePromptIdeal.main_arg0)
          ∧ r.2.mem ((c.tc : Thread Cert.ReferencePromptIdeal.nD Cert.ReferencePromptIdeal.τ).loc Cert.ReferencePromptIdeal.main_arg1) = m' ((c.tc : Thread Cert.ReferencePromptIdeal.nD Cert.ReferencePromptIdeal.τ).loc Cert.ReferencePromptIdeal.main_arg1))

def preserves_KernelSample_KernelSampleIdeal : Prop :=
  True

def algebraic_KernelSampleIdeal_ReferenceSampleIdeal [hKernelSampleIdeal : Cert.KernelSampleIdeal.Facts] [hReferenceSampleIdeal : Cert.ReferenceSampleIdeal.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg)
    (m' : (ℓ : Loc Cert.ReferenceSampleIdeal.nD Cert.ReferenceSampleIdeal.τ Cert.ReferenceSampleIdeal.sig) → Buf (Elt Ideal) ℓ) (g' : Dev Cert.ReferenceSampleIdeal.nD → PrngReg), Pre_KernelSampleIdeal m →
    (∀ c : Dev Cert.KernelSampleIdeal.nD,
      m' ((c.tc : Thread Cert.ReferenceSampleIdeal.nD Cert.ReferenceSampleIdeal.τ).loc Cert.ReferenceSampleIdeal.main_arg0) = m ((c.tc : Thread Cert.KernelSampleIdeal.nD Cert.KernelSampleIdeal.τ).loc Cert.KernelSampleIdeal.main_arg0)
      ∧ m' ((c.tc : Thread Cert.ReferenceSampleIdeal.nD Cert.ReferenceSampleIdeal.τ).loc Cert.ReferenceSampleIdeal.main_arg1) = m ((c.tc : Thread Cert.KernelSampleIdeal.nD Cert.KernelSampleIdeal.τ).loc Cert.KernelSampleIdeal.main_arg1)) →
    ∃ (v0 : (c : Dev Cert.KernelSampleIdeal.nD) → Buf (Elt Ideal) ((c.tc : Thread Cert.KernelSampleIdeal.nD Cert.KernelSampleIdeal.τ).loc Cert.KernelSampleIdeal.main_v2)),
      θ_run (Cert.KernelSampleIdeal.defs (F := Ideal)) (onTc (τ := Cert.KernelSampleIdeal.τ) (Cert.KernelSampleIdeal.main (F := Ideal))) ⟨m, fun _ => 0, g⟩ (fun r => ∀ c : Dev Cert.KernelSampleIdeal.nD,
          r.2.mem ((c.tc : Thread Cert.KernelSampleIdeal.nD Cert.KernelSampleIdeal.τ).loc Cert.KernelSampleIdeal.main_v2) = v0 c
          ∧ r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
          ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1))
      ∧ θ_run (Cert.ReferenceSampleIdeal.defs (F := Ideal)) (onTc (τ := Cert.ReferenceSampleIdeal.τ) (Cert.ReferenceSampleIdeal.main (F := Ideal))) ⟨m', fun _ => 0, g'⟩ (fun r => ∀ c : Dev Cert.ReferenceSampleIdeal.nD,
          r.2.mem ((c.tc : Thread Cert.ReferenceSampleIdeal.nD Cert.ReferenceSampleIdeal.τ).loc Cert.ReferenceSampleIdeal.main_v14) = v0 c
          ∧ r.2.mem ((c.tc : Thread Cert.ReferenceSampleIdeal.nD Cert.ReferenceSampleIdeal.τ).loc Cert.ReferenceSampleIdeal.main_arg0) = m' ((c.tc : Thread Cert.ReferenceSampleIdeal.nD Cert.ReferenceSampleIdeal.τ).loc Cert.ReferenceSampleIdeal.main_arg0)
          ∧ r.2.mem ((c.tc : Thread Cert.ReferenceSampleIdeal.nD Cert.ReferenceSampleIdeal.τ).loc Cert.ReferenceSampleIdeal.main_arg1) = m' ((c.tc : Thread Cert.ReferenceSampleIdeal.nD Cert.ReferenceSampleIdeal.τ).loc Cert.ReferenceSampleIdeal.main_arg1))

def preserves_KernelSsdNorm_KernelSsdNormIdeal : Prop :=
  True

def algebraic_KernelSsdNormIdeal_ReferenceSsdNormIdeal [hKernelSsdNormIdeal : Cert.KernelSsdNormIdeal.Facts] [hReferenceSsdNormIdeal : Cert.ReferenceSsdNormIdeal.Facts] : Prop :=
  ∀ (m : (ℓ : Loc Cert.KernelSsdNormIdeal.nD Cert.KernelSsdNormIdeal.τ Cert.KernelSsdNormIdeal.sig) → Buf (Elt Ideal) ℓ) (g : Dev Cert.KernelSsdNormIdeal.nD → PrngReg)
    (m' : (ℓ : Loc Cert.ReferenceSsdNormIdeal.nD Cert.ReferenceSsdNormIdeal.τ Cert.ReferenceSsdNormIdeal.sig) → Buf (Elt Ideal) ℓ) (g' : Dev Cert.ReferenceSsdNormIdeal.nD → PrngReg), Pre_KernelSsdNormIdeal m →
    (∀ c : Dev Cert.KernelSsdNormIdeal.nD,
      m' ((c.tc : Thread Cert.ReferenceSsdNormIdeal.nD Cert.ReferenceSsdNormIdeal.τ).loc Cert.ReferenceSsdNormIdeal.main_arg0) = m ((c.tc : Thread Cert.KernelSsdNormIdeal.nD Cert.KernelSsdNormIdeal.τ).loc Cert.KernelSsdNormIdeal.main_arg0)
      ∧ m' ((c.tc : Thread Cert.ReferenceSsdNormIdeal.nD Cert.ReferenceSsdNormIdeal.τ).loc Cert.ReferenceSsdNormIdeal.main_arg1) = m ((c.tc : Thread Cert.KernelSsdNormIdeal.nD Cert.KernelSsdNormIdeal.τ).loc Cert.KernelSsdNormIdeal.main_arg1)) →
    ∃ (v0 : (c : Dev Cert.KernelSsdNormIdeal.nD) → Buf (Elt Ideal) ((c.tc : Thread Cert.KernelSsdNormIdeal.nD Cert.KernelSsdNormIdeal.τ).loc Cert.KernelSsdNormIdeal.main_v1)),
      θ_run (Cert.KernelSsdNormIdeal.defs (F := Ideal)) (onTc (τ := Cert.KernelSsdNormIdeal.τ) (Cert.KernelSsdNormIdeal.main (F := Ideal))) ⟨m, fun _ => 0, g⟩ (fun r => ∀ c : Dev Cert.KernelSsdNormIdeal.nD,
          r.2.mem ((c.tc : Thread Cert.KernelSsdNormIdeal.nD Cert.KernelSsdNormIdeal.τ).loc Cert.KernelSsdNormIdeal.main_v1) = v0 c
          ∧ r.2.mem ((c.tc : Thread Cert.KernelSsdNormIdeal.nD Cert.KernelSsdNormIdeal.τ).loc Cert.KernelSsdNormIdeal.main_arg0) = m ((c.tc : Thread Cert.KernelSsdNormIdeal.nD Cert.KernelSsdNormIdeal.τ).loc Cert.KernelSsdNormIdeal.main_arg0)
          ∧ r.2.mem ((c.tc : Thread Cert.KernelSsdNormIdeal.nD Cert.KernelSsdNormIdeal.τ).loc Cert.KernelSsdNormIdeal.main_arg1) = m ((c.tc : Thread Cert.KernelSsdNormIdeal.nD Cert.KernelSsdNormIdeal.τ).loc Cert.KernelSsdNormIdeal.main_arg1))
      ∧ θ_run (Cert.ReferenceSsdNormIdeal.defs (F := Ideal)) (onTc (τ := Cert.ReferenceSsdNormIdeal.τ) (Cert.ReferenceSsdNormIdeal.main (F := Ideal))) ⟨m', fun _ => 0, g'⟩ (fun r => ∀ c : Dev Cert.ReferenceSsdNormIdeal.nD,
          r.2.mem ((c.tc : Thread Cert.ReferenceSsdNormIdeal.nD Cert.ReferenceSsdNormIdeal.τ).loc Cert.ReferenceSsdNormIdeal.main_v13) = v0 c
          ∧ r.2.mem ((c.tc : Thread Cert.ReferenceSsdNormIdeal.nD Cert.ReferenceSsdNormIdeal.τ).loc Cert.ReferenceSsdNormIdeal.main_arg0) = m' ((c.tc : Thread Cert.ReferenceSsdNormIdeal.nD Cert.ReferenceSsdNormIdeal.τ).loc Cert.ReferenceSsdNormIdeal.main_arg0)
          ∧ r.2.mem ((c.tc : Thread Cert.ReferenceSsdNormIdeal.nD Cert.ReferenceSsdNormIdeal.τ).loc Cert.ReferenceSsdNormIdeal.main_arg1) = m' ((c.tc : Thread Cert.ReferenceSsdNormIdeal.nD Cert.ReferenceSsdNormIdeal.τ).loc Cert.ReferenceSsdNormIdeal.main_arg1))

def preserves_KernelHyNorm_KernelHyNormIdeal : Prop :=
  True

def algebraic_KernelHyNormIdeal_ReferenceHyNormIdeal [hKernelHyNormIdeal : Cert.KernelHyNormIdeal.Facts] [hReferenceHyNormIdeal : Cert.ReferenceHyNormIdeal.Facts] : Prop :=
  ∀ (m : (ℓ : Loc Cert.KernelHyNormIdeal.nD Cert.KernelHyNormIdeal.τ Cert.KernelHyNormIdeal.sig) → Buf (Elt Ideal) ℓ) (g : Dev Cert.KernelHyNormIdeal.nD → PrngReg)
    (m' : (ℓ : Loc Cert.ReferenceHyNormIdeal.nD Cert.ReferenceHyNormIdeal.τ Cert.ReferenceHyNormIdeal.sig) → Buf (Elt Ideal) ℓ) (g' : Dev Cert.ReferenceHyNormIdeal.nD → PrngReg), Pre_KernelHyNormIdeal m →
    (∀ c : Dev Cert.KernelHyNormIdeal.nD,
      m' ((c.tc : Thread Cert.ReferenceHyNormIdeal.nD Cert.ReferenceHyNormIdeal.τ).loc Cert.ReferenceHyNormIdeal.main_arg0) = m ((c.tc : Thread Cert.KernelHyNormIdeal.nD Cert.KernelHyNormIdeal.τ).loc Cert.KernelHyNormIdeal.main_arg0)
      ∧ m' ((c.tc : Thread Cert.ReferenceHyNormIdeal.nD Cert.ReferenceHyNormIdeal.τ).loc Cert.ReferenceHyNormIdeal.main_arg1) = m ((c.tc : Thread Cert.KernelHyNormIdeal.nD Cert.KernelHyNormIdeal.τ).loc Cert.KernelHyNormIdeal.main_arg1)) →
    ∃ (v0 : (c : Dev Cert.KernelHyNormIdeal.nD) → Buf (Elt Ideal) ((c.tc : Thread Cert.KernelHyNormIdeal.nD Cert.KernelHyNormIdeal.τ).loc Cert.KernelHyNormIdeal.main_v1)),
      θ_run (Cert.KernelHyNormIdeal.defs (F := Ideal)) (onTc (τ := Cert.KernelHyNormIdeal.τ) (Cert.KernelHyNormIdeal.main (F := Ideal))) ⟨m, fun _ => 0, g⟩ (fun r => ∀ c : Dev Cert.KernelHyNormIdeal.nD,
          r.2.mem ((c.tc : Thread Cert.KernelHyNormIdeal.nD Cert.KernelHyNormIdeal.τ).loc Cert.KernelHyNormIdeal.main_v1) = v0 c
          ∧ r.2.mem ((c.tc : Thread Cert.KernelHyNormIdeal.nD Cert.KernelHyNormIdeal.τ).loc Cert.KernelHyNormIdeal.main_arg0) = m ((c.tc : Thread Cert.KernelHyNormIdeal.nD Cert.KernelHyNormIdeal.τ).loc Cert.KernelHyNormIdeal.main_arg0)
          ∧ r.2.mem ((c.tc : Thread Cert.KernelHyNormIdeal.nD Cert.KernelHyNormIdeal.τ).loc Cert.KernelHyNormIdeal.main_arg1) = m ((c.tc : Thread Cert.KernelHyNormIdeal.nD Cert.KernelHyNormIdeal.τ).loc Cert.KernelHyNormIdeal.main_arg1))
      ∧ θ_run (Cert.ReferenceHyNormIdeal.defs (F := Ideal)) (onTc (τ := Cert.ReferenceHyNormIdeal.τ) (Cert.ReferenceHyNormIdeal.main (F := Ideal))) ⟨m', fun _ => 0, g'⟩ (fun r => ∀ c : Dev Cert.ReferenceHyNormIdeal.nD,
          r.2.mem ((c.tc : Thread Cert.ReferenceHyNormIdeal.nD Cert.ReferenceHyNormIdeal.τ).loc Cert.ReferenceHyNormIdeal.main_v13) = v0 c
          ∧ r.2.mem ((c.tc : Thread Cert.ReferenceHyNormIdeal.nD Cert.ReferenceHyNormIdeal.τ).loc Cert.ReferenceHyNormIdeal.main_arg0) = m' ((c.tc : Thread Cert.ReferenceHyNormIdeal.nD Cert.ReferenceHyNormIdeal.τ).loc Cert.ReferenceHyNormIdeal.main_arg0)
          ∧ r.2.mem ((c.tc : Thread Cert.ReferenceHyNormIdeal.nD Cert.ReferenceHyNormIdeal.τ).loc Cert.ReferenceHyNormIdeal.main_arg1) = m' ((c.tc : Thread Cert.ReferenceHyNormIdeal.nD Cert.ReferenceHyNormIdeal.τ).loc Cert.ReferenceHyNormIdeal.main_arg1))

def Claim : Prop :=
  ∃ (hKernelAtt : Cert.KernelAtt.Facts) (hKernelAttIdeal : Cert.KernelAttIdeal.Facts) (hReferenceAttIdeal : Cert.ReferenceAttIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelProj : Cert.KernelProj.Facts) (hKernelProjIdeal : Cert.KernelProjIdeal.Facts) (hReferenceProjIdeal : Cert.ReferenceProjIdeal.Facts) (hKernelCaches : Cert.KernelCaches.Facts) (hKernelCachesIdeal : Cert.KernelCachesIdeal.Facts) (hReferenceCachesIdeal : Cert.ReferenceCachesIdeal.Facts) (hKernelOut : Cert.KernelOut.Facts) (hKernelOutIdeal : Cert.KernelOutIdeal.Facts) (hReferenceOutIdeal : Cert.ReferenceOutIdeal.Facts) (hKernelAda : Cert.KernelAda.Facts) (hKernelAdaIdeal : Cert.KernelAdaIdeal.Facts) (hReferenceAdaIdeal : Cert.ReferenceAdaIdeal.Facts) (hKernelModA : Cert.KernelModA.Facts) (hKernelModAIdeal : Cert.KernelModAIdeal.Facts) (hReferenceModAIdeal : Cert.ReferenceModAIdeal.Facts) (hKernelModB : Cert.KernelModB.Facts) (hKernelModBIdeal : Cert.KernelModBIdeal.Facts) (hReferenceModBIdeal : Cert.ReferenceModBIdeal.Facts) (hKernelPrompt : Cert.KernelPrompt.Facts) (hKernelPromptIdeal : Cert.KernelPromptIdeal.Facts) (hReferencePromptIdeal : Cert.ReferencePromptIdeal.Facts) (hKernelSample : Cert.KernelSample.Facts) (hKernelSampleIdeal : Cert.KernelSampleIdeal.Facts) (hReferenceSampleIdeal : Cert.ReferenceSampleIdeal.Facts) (hKernelSsdNorm : Cert.KernelSsdNorm.Facts) (hKernelSsdNormIdeal : Cert.KernelSsdNormIdeal.Facts) (hReferenceSsdNormIdeal : Cert.ReferenceSsdNormIdeal.Facts) (hKernelHyNorm : Cert.KernelHyNorm.Facts) (hKernelHyNormIdeal : Cert.KernelHyNormIdeal.Facts) (hReferenceHyNormIdeal : Cert.ReferenceHyNormIdeal.Facts) (hPre_queries_keys_finite : Cert.Pre_queries_keys_finite.Facts),
    quiescent_KernelAtt (hKernelAtt := hKernelAtt)
    ∧ quiescent_KernelAttIdeal (hKernelAttIdeal := hKernelAttIdeal)
    ∧ quiescent_KernelAttIdeal_pre_queries_keys_finite (hKernelAttIdeal := hKernelAttIdeal) (hPre_queries_keys_finite := hPre_queries_keys_finite)
    ∧ quiescent_ReferenceAttIdeal (hReferenceAttIdeal := hReferenceAttIdeal)
    ∧ quiescent_ReferenceAttIdeal_pre_queries_keys_finite (hReferenceAttIdeal := hReferenceAttIdeal) (hPre_queries_keys_finite := hPre_queries_keys_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelCaches (hKernelCaches := hKernelCaches)
    ∧ quiescent_KernelCachesIdeal (hKernelCachesIdeal := hKernelCachesIdeal)
    ∧ quiescent_ReferenceCachesIdeal (hReferenceCachesIdeal := hReferenceCachesIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelModA (hKernelModA := hKernelModA)
    ∧ quiescent_KernelModAIdeal (hKernelModAIdeal := hKernelModAIdeal)
    ∧ quiescent_ReferenceModAIdeal (hReferenceModAIdeal := hReferenceModAIdeal)
    ∧ quiescent_KernelModB (hKernelModB := hKernelModB)
    ∧ quiescent_KernelModBIdeal (hKernelModBIdeal := hKernelModBIdeal)
    ∧ quiescent_ReferenceModBIdeal (hReferenceModBIdeal := hReferenceModBIdeal)
    ∧ quiescent_KernelPrompt (hKernelPrompt := hKernelPrompt)
    ∧ quiescent_KernelPromptIdeal (hKernelPromptIdeal := hKernelPromptIdeal)
    ∧ quiescent_ReferencePromptIdeal (hReferencePromptIdeal := hReferencePromptIdeal)
    ∧ quiescent_KernelSample (hKernelSample := hKernelSample)
    ∧ quiescent_KernelSampleIdeal (hKernelSampleIdeal := hKernelSampleIdeal)
    ∧ quiescent_ReferenceSampleIdeal (hReferenceSampleIdeal := hReferenceSampleIdeal)
    ∧ quiescent_KernelSsdNorm (hKernelSsdNorm := hKernelSsdNorm)
    ∧ quiescent_KernelSsdNormIdeal (hKernelSsdNormIdeal := hKernelSsdNormIdeal)
    ∧ quiescent_ReferenceSsdNormIdeal (hReferenceSsdNormIdeal := hReferenceSsdNormIdeal)
    ∧ quiescent_KernelHyNorm (hKernelHyNorm := hKernelHyNorm)
    ∧ quiescent_KernelHyNormIdeal (hKernelHyNormIdeal := hKernelHyNormIdeal)
    ∧ quiescent_ReferenceHyNormIdeal (hReferenceHyNormIdeal := hReferenceHyNormIdeal)
    ∧ preserves_KernelAtt_KernelAttIdeal
    ∧ algebraic_KernelAttIdeal_ReferenceAttIdeal_pre_queries_keys_finite (hKernelAttIdeal := hKernelAttIdeal) (hReferenceAttIdeal := hReferenceAttIdeal) (hPre_queries_keys_finite := hPre_queries_keys_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelProj_KernelProjIdeal
    ∧ algebraic_KernelProjIdeal_ReferenceProjIdeal (hKernelProjIdeal := hKernelProjIdeal) (hReferenceProjIdeal := hReferenceProjIdeal)
    ∧ preserves_KernelCaches_KernelCachesIdeal
    ∧ algebraic_KernelCachesIdeal_ReferenceCachesIdeal (hKernelCachesIdeal := hKernelCachesIdeal) (hReferenceCachesIdeal := hReferenceCachesIdeal)
    ∧ preserves_KernelOut_KernelOutIdeal
    ∧ algebraic_KernelOutIdeal_ReferenceOutIdeal (hKernelOutIdeal := hKernelOutIdeal) (hReferenceOutIdeal := hReferenceOutIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelModA_KernelModAIdeal
    ∧ algebraic_KernelModAIdeal_ReferenceModAIdeal (hKernelModAIdeal := hKernelModAIdeal) (hReferenceModAIdeal := hReferenceModAIdeal)
    ∧ preserves_KernelModB_KernelModBIdeal
    ∧ algebraic_KernelModBIdeal_ReferenceModBIdeal (hKernelModBIdeal := hKernelModBIdeal) (hReferenceModBIdeal := hReferenceModBIdeal)
    ∧ preserves_KernelPrompt_KernelPromptIdeal
    ∧ algebraic_KernelPromptIdeal_ReferencePromptIdeal (hKernelPromptIdeal := hKernelPromptIdeal) (hReferencePromptIdeal := hReferencePromptIdeal)
    ∧ preserves_KernelSample_KernelSampleIdeal
    ∧ algebraic_KernelSampleIdeal_ReferenceSampleIdeal (hKernelSampleIdeal := hKernelSampleIdeal) (hReferenceSampleIdeal := hReferenceSampleIdeal)
    ∧ preserves_KernelSsdNorm_KernelSsdNormIdeal
    ∧ algebraic_KernelSsdNormIdeal_ReferenceSsdNormIdeal (hKernelSsdNormIdeal := hKernelSsdNormIdeal) (hReferenceSsdNormIdeal := hReferenceSsdNormIdeal)
    ∧ preserves_KernelHyNorm_KernelHyNormIdeal
    ∧ algebraic_KernelHyNormIdeal_ReferenceHyNormIdeal (hKernelHyNormIdeal := hKernelHyNormIdeal) (hReferenceHyNormIdeal := hReferenceHyNormIdeal)
-- ==== Pre_queries_keys_finite.lean ====
abbrev S16384x12288 : Shape := ⟨2, ![16384, 12288]⟩
abbrev S4x64 : Shape := ⟨2, ![4, 64]⟩
abbrev S128 : Shape := ⟨1, ![128]⟩
abbrev S8192x3072 : Shape := ⟨2, ![8192, 3072]⟩
abbrev S_ : Shape := ⟨0, ![]⟩

class Facts : Prop where
  slices_S16384x12288_S8192x3072_0_0 : S16384x12288.Slices ![0, 0] S8192x3072
  bcast_S_S8192x3072 : S_.BroadcastsInDim S8192x3072 (![] : Fin 0 → Fin S8192x3072.rank)

variable [Facts]

def fn {F : FTy → Type} [FloatOps F] (main_arg0 : FVec F S16384x12288 .f32) (main_arg1 : FVec F S4x64 .f32) (main_arg2 : FVec F S128 .f32) : IVec S8192x3072 1 :=
  let main_v0 : FVec F S8192x3072 .f32 := (extractStridedSlice S8192x3072 ![0, 0] · slices_S16384x12288_S8192x3072_0_0) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  main_v3
-- ==== KernelAtt.lean ====
abbrev S16384x12288 : Shape := ⟨2, ![16384, 12288]⟩
abbrev S4x64 : Shape := ⟨2, ![4, 64]⟩
abbrev S128 : Shape := ⟨1, ![128]⟩
abbrev S1x128 : Shape := ⟨2, ![1, 128]⟩
abbrev S8192x1536 : Shape := ⟨2, ![8192, 1536]⟩
abbrev S256x512 : Shape := ⟨2, ![256, 512]⟩
abbrev S256x128 : Shape := ⟨2, ![256, 128]⟩
abbrev S1x64 : Shape := ⟨2, ![1, 64]⟩
abbrev S1 : Shape := ⟨1, ![1]⟩
abbrev S1x1 : Shape := ⟨2, ![1, 1]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 12
  | .smem => 0
  | _ => 0

abbrev bufTy : (tb : Table) → Fin (tcTables nBuf tb) → BufTy
  | .hbm, ⟨0, _⟩ => ⟨S16384x12288, .f32⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S8192x1536, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S4x64, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S256x128, .bf16⟩
  | .local _ .vmem, ⟨11, _⟩ => ⟨S256x128, .bf16⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let v1 : BitVec 32 := Scalar.addi c3_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c6_i32 : BitVec 32 := 6#32
  let v1 : BitVec 32 := Scalar.addi c6_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceAttIdeal.lean ====
abbrev S16384x12288 : Shape := ⟨2, ![16384, 12288]⟩
abbrev S4x64 : Shape := ⟨2, ![4, 64]⟩
abbrev S128 : Shape := ⟨1, ![128]⟩
abbrev S8192x1536 : Shape := ⟨2, ![8192, 1536]⟩
abbrev S32x256x12x2x64 : Shape := ⟨5, ![32, 256, 12, 2, 64]⟩
abbrev S32x256x12x128 : Shape := ⟨4, ![32, 256, 12, 128]⟩
abbrev S1x64 : Shape := ⟨2, ![1, 64]⟩
abbrev S64 : Shape := ⟨1, ![64]⟩
abbrev S_ : Shape := ⟨0, ![]⟩
abbrev S32x12x2x256x256 : Shape := ⟨5, ![32, 12, 2, 256, 256]⟩
abbrev S32x12x2x256 : Shape := ⟨4, ![32, 12, 2, 256]⟩
abbrev S32x12x2x256x1 : Shape := ⟨5, ![32, 12, 2, 256, 1]⟩
abbrev S32x12x1x256x256 : Shape := ⟨5, ![32, 12, 1, 256, 256]⟩
abbrev S32x12x256x256 : Shape := ⟨4, ![32, 12, 256, 256]⟩
abbrev S32x12x128x256 : Shape := ⟨4, ![32, 12, 128, 256]⟩
abbrev S32x256x12 : Shape := ⟨3, ![32, 256, 12]⟩
abbrev S32x256x12x1 : Shape := ⟨4, ![32, 256, 12, 1]⟩
abbrev S1x1x1x128 : Shape := ⟨4, ![1, 1, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S4x64, .f32⟩
  | .hbm, ⟨2, _⟩ => ⟨S128, .f32⟩
  | .hbm, ⟨3, _⟩ => ⟨S8192x1536, .f32⟩
  | .hbm, ⟨4, _⟩ => ⟨S32x256x12x2x64, .f32⟩
  | .hbm, ⟨5, _⟩ => ⟨S8192x1536, .f32⟩
  | .hbm, ⟨6, _⟩ => ⟨S32x256x12x2x64, .f32⟩
  | .hbm, ⟨7, _⟩ => ⟨S8192x1536, .f32⟩
  | .hbm, ⟨8, _⟩ => ⟨S32x256x12x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32x12x2x256x256, .f32⟩
  | .hbm, ⟨29, _⟩ => ⟨S_, .f32⟩
  | .hbm, ⟨30, _⟩ => ⟨S32x12x2x256x256, .f32⟩
  | .hbm, ⟨31, _⟩ => ⟨S32x12x2x256x256, .f32⟩
  | .hbm, ⟨32, _⟩ => ⟨S_, .f32⟩
  | .hbm, ⟨33, _⟩ => ⟨S32x12x2x256, .f32⟩
  | .hbm, ⟨34, _⟩ => ⟨S_, .f32⟩
  | .hbm, ⟨35, _⟩ => ⟨S32x12x2x256, .f32⟩
  | .hbm, ⟨36, _⟩ => ⟨S32x12x2x256, .f32⟩
  | .hbm, ⟨37, _⟩ => ⟨S32x12x2x256x1, .f32⟩
  | .hbm, ⟨38, _⟩ => ⟨S32x12x2x256x256, .f32⟩
  | .hbm, ⟨39, _⟩ => ⟨S32x12x2x256x256, .f32⟩
  | .hbm, ⟨40, _⟩ => ⟨S32x12x2x256x256, .f32⟩
  | .hbm, ⟨41, _⟩ => ⟨S_, .f32⟩
  | .hbm, ⟨42, _⟩ => ⟨S32x12x2x256, .f32⟩
  | .hbm, ⟨43, _⟩ => ⟨S32x12x2x256x1, .f32⟩
  | .hbm, ⟨44, _⟩ => ⟨S32x12x2x256x256, .f32⟩
  | .hbm, ⟨45, _⟩ => ⟨S32x12x2x256x256, .f32⟩
  | .hbm, ⟨46, _⟩ => ⟨S32x12x1x256x256, .f32⟩
  | .hbm, ⟨47, _⟩ => ⟨S32x12x256x256, .f32⟩
  | .hbm, ⟨48, _⟩ => ⟨S32x12x1x256x256, .f32⟩
  | .hbm, ⟨49, _⟩ => ⟨S32x12x256x256, .f32⟩
  | .hbm, ⟨50, _⟩ => ⟨S32x12x256x256, .f32⟩
  | .hbm, ⟨51, _⟩ => ⟨S32x12x256x256, .f32⟩
  | .hbm, ⟨52, _⟩ => ⟨S32x12x256x256, .f32⟩
  | .hbm, ⟨53, _⟩ => ⟨S32x12x128x256, .f32⟩
  | .hbm, ⟨54, _⟩ => ⟨S32x256x12x128, .f32⟩
  | .hbm, ⟨55, _⟩ => ⟨S32x256x12x128, .f32⟩
  | .hbm, ⟨56, _⟩ => ⟨S_, .f32⟩
  | .hbm, ⟨57, _⟩ => ⟨S32x256x12, .f32⟩
  | .hbm, ⟨58, _⟩ => ⟨S32x256x12x1, .f32⟩
  | .hbm, ⟨59, _⟩ => ⟨S_, .f32⟩
  | .hbm, ⟨60, _⟩ => ⟨S32x256x12x1, .f32⟩
  | .hbm, ⟨61, _⟩ => ⟨S32x256x12x1, .f32⟩
  | .hbm, ⟨62, _⟩ => ⟨S_, .f32⟩
  | .hbm, ⟨63, _⟩ => ⟨S32x256x12x1, .f32⟩
  | .hbm, ⟨64, _⟩ => ⟨S32x256x12x1, .f32⟩
  | .hbm, ⟨65, _⟩ => ⟨S32x256x12x1, .f32⟩
  | .hbm, ⟨66, _⟩ => ⟨S32x256x12x128, .f32⟩
  | .hbm, ⟨67, _⟩ => ⟨S32x256x12x128, .f32⟩
  | .hbm, ⟨68, _⟩ => ⟨S1x1x1x128, .f32⟩
  | .hbm, ⟨69, _⟩ => ⟨S32x256x12x128, .f32⟩
  | .hbm, ⟨70, _⟩ => ⟨S32x256x12x128, .f32⟩
  | .hbm, ⟨71, _⟩ => ⟨S_, .f32⟩
  | .hbm, ⟨72, _⟩ => ⟨S32x256x12x128, .f32⟩
  | .hbm, ⟨73, _⟩ => ⟨S32x256x12x128, .f32⟩
  | .hbm, ⟨74, _⟩ => ⟨S8192x1536, .f32⟩
  | .hbm, ⟨75, _⟩ => ⟨S8192x1536, .bf16⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== KernelUp.lean ====
abbrev S16384x4096 : Shape := ⟨2, ![16384, 4096]⟩
abbrev S4096x22016 : Shape := ⟨2, ![4096, 22016]⟩
abbrev S3x22016 : Shape := ⟨2, ![3, 22016]⟩
abbrev S22016 : Shape := ⟨1, ![22016]⟩
abbrev S1x22016 : Shape := ⟨2, ![1, 22016]⟩
abbrev S16384x11008 : Shape := ⟨2, ![16384, 11008]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩

abbrev nBuf : Space → Nat
  | .hbm => 8
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S4096x22016, .bf16⟩
  | .hbm, ⟨5, _⟩ => ⟨S1x22016, .f32⟩
  | .hbm, ⟨6, _⟩ => ⟨S1x22016, .f32⟩
  | .hbm, ⟨7, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1024x256, .bf16⟩
  | .local _ .vmem, ⟨15, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceUpIdeal.lean ====
abbrev S16384x4096 : Shape := ⟨2, ![16384, 4096]⟩
abbrev S4096x22016 : Shape := ⟨2, ![4096, 22016]⟩
abbrev S3x22016 : Shape := ⟨2, ![3, 22016]⟩
abbrev S22016 : Shape := ⟨1, ![22016]⟩
abbrev S16384x22016 : Shape := ⟨2, ![16384, 22016]⟩
abbrev S8192x22016 : Shape := ⟨2, ![8192, 22016]⟩
abbrev S32x256x22016 : Shape := ⟨3, ![32, 256, 22016]⟩
abbrev S_ : Shape := ⟨0, ![]⟩
abbrev S32x258x22016 : Shape := ⟨3, ![32, 258, 22016]⟩
abbrev S1x22016 : Shape := ⟨2, ![1, 22016]⟩
abbrev S1x1x22016 : Shape := ⟨3, ![1, 1, 22016]⟩
abbrev S32x256x11008 : Shape := ⟨3, ![32, 256, 11008]⟩
abbrev S8192x11008 : Shape := ⟨2, ![8192, 11008]⟩
abbrev S8x1024x22016 : Shape := ⟨3, ![8, 1024, 22016]⟩
abbrev S8x1026x22016 : Shape := ⟨3, ![8, 1026, 22016]⟩
abbrev S8x1024x11008 : Shape := ⟨3, ![8, 1024, 11008]⟩
abbrev S16384x11008 : Shape := ⟨2, ![16384, 11008]⟩

abbrev nBuf : Space → Nat
  | .hbm => 90
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S16384x4096, .f32⟩
  | .hbm, ⟨5, _⟩ => ⟨S16384x22016, .f32⟩
  | .hbm, ⟨6, _⟩ => ⟨S8192x22016, .f32⟩
  | .hbm, ⟨7, _⟩ => ⟨S32x256x22016, .f32⟩
  | .hbm, ⟨8, _⟩ => ⟨S_, .i32⟩
  | .hbm, ⟨9, _⟩ => ⟨S_, .f32⟩
  | .hbm, ⟨10, _⟩ => ⟨S32x258x22016, .f32⟩
  | .hbm, ⟨11, _⟩ => ⟨S32x256x22016, .f32⟩
  | .hbm, ⟨12, _⟩ => ⟨S1x22016, .f32⟩
  | .hbm, ⟨13, _⟩ => ⟨S22016, .f32⟩
  | .hbm, ⟨14, _⟩ => ⟨S1x1x22016, .f32⟩
  | .hbm, ⟨15, _⟩ => ⟨S32x256x22016, .f32⟩
  | .hbm, ⟨16, _⟩ => ⟨S32x256x22016, .f32⟩
  | .hbm, ⟨17, _⟩ => ⟨S1x1x22016, .f32⟩
  | .hbm, ⟨18, _⟩ => ⟨S32x256x22016, .f32⟩
  | .hbm, ⟨19, _⟩ => ⟨S32x256x22016, .f32⟩
  | .hbm, ⟨20, _⟩ => ⟨S32x256x22016, .f32⟩
  | .hbm, ⟨21, _⟩ => ⟨S1x22016, .f32⟩
  | .hbm, ⟨22, _⟩ => ⟨S22016, .f32⟩
  | .hbm, ⟨23, _⟩ => ⟨S1x1x22016, .f32⟩
  | .hbm, ⟨24, _⟩ => ⟨S32x256x22016, .f32⟩
  | .hbm, ⟨25, _⟩ => ⟨S32x256x22016, .f32⟩
  | .hbm, ⟨26, _⟩ => ⟨S32x256x22016, .f32⟩
  | .hbm, ⟨27, _⟩ => ⟨S32x256x22016, .f32⟩
  | .hbm, ⟨28, _⟩ => ⟨S1x22016, .f32⟩
  | .hbm, ⟨29, _⟩ => ⟨S22016, .f32⟩
  | .hbm, ⟨30, _⟩ => ⟨S1x1x22016, .f32⟩
  | .hbm, ⟨31, _⟩ => ⟨S32x256x22016, .f32⟩
  | .hbm, ⟨32, _⟩ => ⟨S32x256x22016, .f32⟩
  | .hbm, ⟨33, _⟩ => ⟨S32x256x22016, .f32⟩
  | .hbm, ⟨34, _⟩ => ⟨S32x256x11008, .f32⟩
  | .hbm, ⟨35, _⟩ => ⟨S32x256x11008, .f32⟩
  | .hbm, ⟨36, _⟩ => ⟨S32x256x11008, .f32⟩
  | .hbm, ⟨37, _⟩ => ⟨S32x256x11008, .f32⟩
  | .hbm, ⟨38, _⟩ => ⟨S_, .f32⟩
  | .hbm, ⟨39, _⟩ => ⟨S32x256x11008, .f32⟩
  | .hbm, ⟨40, _⟩ => ⟨S32x256x11008, .f32⟩
  | .hbm, ⟨41, _⟩ => ⟨S_, .f32⟩
  | .hbm, ⟨42, _⟩ => ⟨S32x256x11008, .f32⟩
  | .hbm, ⟨43, _⟩ => ⟨S32x256x11008, .f32⟩
  | .hbm, ⟨44, _⟩ => ⟨S32x256x11008, .f32⟩
  | .hbm, ⟨45, _⟩ => ⟨S32x256x11008, .f32⟩
  | .hbm, ⟨46, _⟩ => ⟨S8192x11008, .f32⟩
  | .hbm, ⟨47, _⟩ => ⟨S8192x22016, .f32⟩
  | .hbm, ⟨48, _⟩ => ⟨S8x1024x22016, .f32⟩
  | .hbm, ⟨49, _⟩ => ⟨S_, .i32⟩
  | .hbm, ⟨50, _⟩ => ⟨S_, .f32⟩
  | .hbm, ⟨51, _⟩ => ⟨S8x1026x22016, .f32⟩
  | .hbm, ⟨52, _⟩ => ⟨S8x1024x22016, .f32⟩
  | .hbm, ⟨53, _⟩ => ⟨S1x22016, .f32⟩
  | .hbm, ⟨54, _⟩ => ⟨S22016, .f32⟩
  | .hbm, ⟨55, _⟩ => ⟨S1x1x22016, .f32⟩
  | .hbm, ⟨56, _⟩ => ⟨S8x1024x22016, .f32⟩
  | .hbm, ⟨57, _⟩ => ⟨S8x1024x22016, .f32⟩
  | .hbm, ⟨58, _⟩ => ⟨S1x1x22016, .f32⟩
  | .hbm, ⟨59, _⟩ => ⟨S8x1024x22016, .f32⟩
  | .hbm, ⟨60, _⟩ => ⟨S8x1024x22016, .f32⟩
  | .hbm, ⟨61, _⟩ => ⟨S8x1024x22016, .f32⟩
  | .hbm, ⟨62, _⟩ => ⟨S1x22016, .f32⟩
  | .hbm, ⟨63, _⟩ => ⟨S22016, .f32⟩
  | .hbm, ⟨64, _⟩ => ⟨S1x1x22016, .f32⟩
  | .hbm, ⟨65, _⟩ => ⟨S8x1024x22016, .f32⟩
  | .hbm, ⟨66, _⟩ => ⟨S8x1024x22016, .f32⟩
  | .hbm, ⟨67, _⟩ => ⟨S8x1024x22016, .f32⟩
  | .hbm, ⟨68, _⟩ => ⟨S8x1024x22016, .f32⟩
  | .hbm, ⟨69, _⟩ => ⟨S1x22016, .f32⟩
  | .hbm, ⟨70, _⟩ => ⟨S22016, .f32⟩
  | .hbm, ⟨71, _⟩ => ⟨S1x1x22016, .f32⟩
  | .hbm, ⟨72, _⟩ => ⟨S8x1024x22016, .f32⟩
  | .hbm, ⟨73, _⟩ => ⟨S8x1024x22016, .f32⟩
  | .hbm, ⟨74, _⟩ => ⟨S8x1024x22016, .f32⟩
  | .hbm, ⟨75, _⟩ => ⟨S8x1024x11008, .f32⟩
  | .hbm, ⟨76, _⟩ => ⟨S8x1024x11008, .f32⟩
  | .hbm, ⟨77, _⟩ => ⟨S8x1024x11008, .f32⟩
  | .hbm, ⟨78, _⟩ => ⟨S8x1024x11008, .f32⟩
  | .hbm, ⟨79, _⟩ => ⟨S_, .f32⟩
  | .hbm, ⟨80, _⟩ => ⟨S8x1024x11008, .f32⟩
  | .hbm, ⟨81, _⟩ => ⟨S8x1024x11008, .f32⟩
  | .hbm, ⟨82, _⟩ => ⟨S_, .f32⟩
  | .hbm, ⟨83, _⟩ => ⟨S8x1024x11008, .f32⟩
  | .hbm, ⟨84, _⟩ => ⟨S8x1024x11008, .f32⟩
  | .hbm, ⟨85, _⟩ => ⟨S8x1024x11008, .f32⟩
  | .hbm, ⟨86, _⟩ => ⟨S8x1024x11008, .f32⟩
  | .hbm, ⟨87, _⟩ => ⟨S8192x11008, .f32⟩
  | .hbm, ⟨88, _⟩ => ⟨S16384x11008, .f32⟩
  | .hbm, ⟨89, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_0 : Ref sig .tc := ⟨.hbm, 49, rfl⟩
abbrev main_call2_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== KernelDown.lean ====
abbrev S16384x11008 : Shape := ⟨2, ![16384, 11008]⟩
abbrev S11008x4096 : Shape := ⟨2, ![11008, 4096]⟩
abbrev S16384x4096 : Shape := ⟨2, ![16384, 4096]⟩
abbrev S16x6x1x4096 : Shape := ⟨4, ![16, 6, 1, 4096]⟩
abbrev S1024x11008 : Shape := ⟨2, ![1024, 11008]⟩
abbrev S11008x256 : Shape := ⟨2, ![11008, 256]⟩
abbrev S1024x256 : Shape := ⟨2, ![1024, 256]⟩
abbrev S1x1x1x256 : Shape := ⟨4, ![1, 1, 1, 256]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16x6x1x4096, .f32⟩
  | .hbm, ⟨4, _⟩ => ⟨S11008x4096, .bf16⟩
  | .hbm, ⟨5, _⟩ => ⟨S16384x4096, .f32⟩
  | .local _ .vmem, ⟨0, _⟩ => ⟨S1024x11008, .bf16⟩
  | .local _ .vmem, ⟨1, _⟩ => ⟨S11008x256, .bf16⟩
  | .local _ .vmem, ⟨2, _⟩ => ⟨S11008x256, .bf16⟩
  | .local _ .vmem, ⟨3, _⟩ => ⟨S1024x256, .f32⟩
  | .local _ .vmem, ⟨4, _⟩ => ⟨S1024x256, .f32⟩
  | .local _ .vmem, ⟨5, _⟩ => ⟨S1x1x1x256, .f32⟩
  | .local _ .vmem, ⟨6, _⟩ => ⟨S1x1x1x256, .f32⟩
  | .local _ .vmem, ⟨7, _⟩ => ⟨S1024x256, .f32⟩
  | .local _ .vmem, ⟨8, _⟩ => ⟨S1024x256, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.subi v0 c8192_i32
  let c0_i32 : BitVec 32 := 0#32
  let v2 : BitVec 32 := Scalar.maxsi v1 c0_i32
  let c1024_i32_0 : BitVec 32 := 1024#32
  let v3 : BitVec 32 := Scalar.divsi v2 c1024_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_0 c0_i32_3
  let v10 : BitVec 32 := Scalar.extui v9
  let c0_i32_4 : BitVec 32 := 0#32
  let v11 : BitVec 1 := Scalar.cmpi .slt c1024_i32_0 c0_i32_4
  let v12 : BitVec 32 := Scalar.extui v11
  let v13 : BitVec 32 := Scalar.subi v10 v12
  let v14 : BitVec 1 := Scalar.cmpi .ne v8 v13
  let v15 : BitVec 32 := Scalar.remsi v2 c1024_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8192_i32_6 : BitVec 32 := 8192#32
  let v20 : BitVec 1 := Scalar.cmpi .sge v0 c8192_i32_6
  let c1_i32_7 : BitVec 32 := 1#32
  let v21 : BitVec 32 := Scalar.addi v19 c1_i32_7
  let c0_i32_8 : BitVec 32 := 0#32
  let v22 : BitVec 32 := Scalar.select v20 v21 c0_i32_8
  let c5_i32 : BitVec 32 := 5#32
  let c0_i32_9 : BitVec 32 := 0#32
  let c0_i32_10 : BitVec 32 := 0#32
  ![v22.toNat, c5_i32.toNat, c0_i32_9.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDownIdeal.lean ====
abbrev S16384x11008 : Shape := ⟨2, ![16384, 11008]⟩
abbrev S11008x4096 : Shape := ⟨2, ![11008, 4096]⟩
abbrev S16384x4096 : Shape := ⟨2, ![16384, 4096]⟩
abbrev S16x6x1x4096 : Shape := ⟨4, ![16, 6, 1, 4096]⟩
abbrev S16x1x1x4096 : Shape := ⟨4, ![16, 1, 1, 4096]⟩
abbrev S16x1x4096 : Shape := ⟨3, ![16, 1, 4096]⟩
abbrev S8192x4096 : Shape := ⟨2, ![8192, 4096]⟩
abbrev S32x256x4096 : Shape := ⟨3, ![32, 256, 4096]⟩
abbrev S1x1x4096 : Shape := ⟨3, ![1, 1, 4096]⟩
abbrev S8x1024x4096 : Shape := ⟨3, ![8, 1024, 4096]⟩
abbrev S8x1x4096 : Shape := ⟨3, ![8, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16x6x1x4096, .f32⟩
  | .hbm, ⟨4, _⟩ => ⟨S16384x11008, .f32⟩
  | .hbm, ⟨5, _⟩ => ⟨S16384x4096, .f32⟩
  | .hbm, ⟨6, _⟩ => ⟨S16x1x1x4096, .f32⟩
  | .hbm, ⟨7, _⟩ => ⟨S16x1x4096, .f32⟩
  | .hbm, ⟨8, _⟩ => ⟨S8192x4096, .f32⟩
  | .hbm, ⟨9, _⟩ => ⟨S32x256x4096, .f32⟩
  | .hbm, ⟨10, _⟩ => ⟨S1x1x4096, .f32⟩
  | .hbm, ⟨11, _⟩ => ⟨S8192x4096, .f32⟩
  | .hbm, ⟨12, _⟩ => ⟨S32x256x4096, .f32⟩
  | .hbm, ⟨13, _⟩ => ⟨S32x256x4096, .f32⟩
  | .hbm, ⟨14, _⟩ => ⟨S32x256x4096, .f32⟩
  | .hbm, ⟨15, _⟩ => ⟨S32x256x4096, .f32⟩
  | .hbm, ⟨16, _⟩ => ⟨S8192x4096, .f32⟩
  | .hbm, ⟨17, _⟩ => ⟨S8x1024x4096, .f32⟩
  | .hbm, ⟨18, _⟩ => ⟨S8x1x4096, .f32⟩
  | .hbm, ⟨19, _⟩ => ⟨S8192x4096, .f32⟩
  | .hbm, ⟨20, _⟩ => ⟨S8x1024x4096, .f32⟩
  | .hbm, ⟨21, _⟩ => ⟨S8x1024x4096, .f32⟩
  | .hbm, ⟨22, _⟩ => ⟨S8x1024x4096, .f32⟩
  | .hbm, ⟨23, _⟩ => ⟨S8x1024x4096, .f32⟩
  | .hbm, ⟨24, _⟩ => ⟨S8192x4096, .f32⟩
  | .hbm, ⟨25, _⟩ => ⟨S8192x4096, .f32⟩
  | .hbm, ⟨26, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== KernelProj.lean ====
abbrev S16384x4096 : Shape := ⟨2, ![16384, 4096]⟩
abbrev S4096x12288 : Shape := ⟨2, ![4096, 12288]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjIdeal.lean ====
abbrev S16384x4096 : Shape := ⟨2, ![16384, 4096]⟩
abbrev S4096x12288 : Shape := ⟨2, ![4096, 12288]⟩
abbrev S16384x12288 : Shape := ⟨2, ![16384, 12288]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x4096, .f32⟩
  | .hbm, ⟨3, _⟩ => ⟨S4096x12288, .f32⟩
  | .hbm, ⟨4, _⟩ => ⟨S16384x12288, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelCaches.lean ====
abbrev S16384x4096 : Shape := ⟨2, ![16384, 4096]⟩
abbrev S4x4096x12288 : Shape := ⟨3, ![4, 4096, 12288]⟩
abbrev S1x4096x12288 : Shape := ⟨3, ![1, 4096, 12288]⟩
abbrev S4096x12288 : Shape := ⟨2, ![4096, 12288]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩
abbrev S8192x1536 : Shape := ⟨2, ![8192, 1536]⟩
abbrev S32x256x1536 : Shape := ⟨3, ![32, 256, 1536]⟩
abbrev S32x1x256x1536 : Shape := ⟨4, ![32, 1, 256, 1536]⟩
abbrev S32x4x256x1536 : Shape := ⟨4, ![32, 4, 256, 1536]⟩
abbrev S32x4x256x12x128 : Shape := ⟨5, ![32, 4, 256, 12, 128]⟩

abbrev nBuf : Space → Nat
  | .hbm => 49
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .bf16⟩
  | .hbm, ⟨3, _⟩ => ⟨S16384x4096, .bf16⟩
  | .hbm, ⟨4, _⟩ => ⟨S4x4096x12288, .f32⟩
  | .hbm, ⟨5, _⟩ => ⟨S1x4096x12288, .f32⟩
  | .hbm, ⟨6, _⟩ => ⟨S4096x12288, .f32⟩
  | .hbm, ⟨7, _⟩ => ⟨S4096x12288, .bf16⟩
  | .hbm, ⟨8, _⟩ => ⟨S16384x12288, .f32⟩
  | .hbm, ⟨9, _⟩ => ⟨S8192x1536, .f32⟩
  | .hbm, ⟨10, _⟩ => ⟨S32x256x1536, .f32⟩
  | .hbm, ⟨11, _⟩ => ⟨S8192x1536, .f32⟩
  | .hbm, ⟨12, _⟩ => ⟨S32x256x1536, .f32⟩
  | .hbm, ⟨13, _⟩ => ⟨S1x4096x12288, .f32⟩
  | .hbm, ⟨14, _⟩ => ⟨S4096x12288, .f32⟩
  | .hbm, ⟨15, _⟩ => ⟨S4096x12288, .bf16⟩
  | .hbm, ⟨16, _⟩ => ⟨S16384x12288, .f32⟩
  | .hbm, ⟨17, _⟩ => ⟨S8192x1536, .f32⟩
  | .hbm, ⟨18, _⟩ => ⟨S32x256x1536, .f32⟩
  | .hbm, ⟨19, _⟩ => ⟨S8192x1536, .f32⟩
  | .hbm, ⟨20, _⟩ => ⟨S32x256x1536, .f32⟩
  | .hbm, ⟨21, _⟩ => ⟨S1x4096x12288, .f32⟩
  | .hbm, ⟨22, _⟩ => ⟨S4096x12288, .f32⟩
  | .hbm, ⟨23, _⟩ => ⟨S4096x12288, .bf16⟩
  | .hbm, ⟨24, _⟩ => ⟨S16384x12288, .f32⟩
  | .hbm, ⟨25, _⟩ => ⟨S8192x1536, .f32⟩
  | .hbm, ⟨26, _⟩ => ⟨S32x256x1536, .f32⟩
  | .hbm, ⟨27, _⟩ => ⟨S8192x1536, .f32⟩
  | .hbm, ⟨28, _⟩ => ⟨S32x256x1536, .f32⟩
  | .hbm, ⟨29, _⟩ => ⟨S1x4096x12288, .f32⟩
  | .hbm, ⟨30, _⟩ => ⟨S4096x12288, .f32⟩
  | .hbm, ⟨31, _⟩ => ⟨S4096x12288, .bf16⟩
  | .hbm, ⟨32, _⟩ => ⟨S16384x12288, .f32⟩
  | .hbm, ⟨33, _⟩ => ⟨S8192x1536, .f32⟩
  | .hbm, ⟨34, _⟩ => ⟨S32x256x1536, .f32⟩
  | .hbm, ⟨35, _⟩ => ⟨S8192x1536, .f32⟩
  | .hbm, ⟨36, _⟩ => ⟨S32x256x1536, .f32⟩
  | .hbm, ⟨37, _⟩ => ⟨S32x1x256x1536, .f32⟩
  | .hbm, ⟨38, _⟩ => ⟨S32x1x256x1536, .f32⟩
  | .hbm, ⟨39, _⟩ => ⟨S32x1x256x1536, .f32⟩
  | .hbm, ⟨40, _⟩ => ⟨S32x1x256x1536, .f32⟩
  | .hbm, ⟨41, _⟩ => ⟨S32x4x256x1536, .f32⟩
  | .hbm, ⟨42, _⟩ => ⟨S32x4x256x12x128, .f32⟩
  | .hbm, ⟨43, _⟩ => ⟨S32x1x256x1536, .f32⟩
  | .hbm, ⟨44, _⟩ => ⟨S32x1x256x1536, .f32⟩
  | .hbm, ⟨45, _⟩ => ⟨S32x1x256x1536, .f32⟩
  | .hbm, ⟨46, _⟩ => ⟨S32x1x256x1536, .f32⟩
  | .hbm, ⟨47, _⟩ => ⟨S32x4x256x1536, .f32⟩
  | .hbm, ⟨48, _⟩ => ⟨S32x4x256x12x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096x1024, .bf16⟩
  | .local _ .vmem, ⟨9, _⟩ => ⟨S4096x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | .local _ .vmem, ⟨13, _⟩ => ⟨S1024x4096, .bf16⟩
  | .local _ .vmem, ⟨14, _⟩ => ⟨S4096x1024, .bf16⟩
  | .local _ .vmem, ⟨15, _⟩ => ⟨S4096x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x4096, .bf16⟩
  | .local _ .vmem, ⟨19, _⟩ => ⟨S1024x4096, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .f32⟩
  | .local _ .vmem, ⟨23, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 12], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ReferenceCachesIdeal.lean ====
abbrev S16384x4096 : Shape := ⟨2, ![16384, 4096]⟩
abbrev S4x4096x12288 : Shape := ⟨3, ![4, 4096, 12288]⟩
abbrev S8192x4096 : Shape := ⟨2, ![8192, 4096]⟩
abbrev S32x256x4096 : Shape := ⟨3, ![32, 256, 4096]⟩
abbrev S1x4096x12288 : Shape := ⟨3, ![1, 4096, 12288]⟩
abbrev S4096x12288 : Shape := ⟨2, ![4096, 12288]⟩
abbrev S32x256x12288 : Shape := ⟨3, ![32, 256, 12288]⟩
abbrev S32x256x1536 : Shape := ⟨3, ![32, 256, 1536]⟩
abbrev S32x256x7680 : Shape := ⟨3, ![32, 256, 7680]⟩
abbrev S32x256x12x128 : Shape := ⟨4, ![32, 256, 12, 128]⟩
abbrev S32x1x256x12x128 : Shape := ⟨5, ![32, 1, 256, 12, 128]⟩
abbrev S32x4x256x12x128 : Shape := ⟨5, ![32, 4, 256, 12, 128]⟩

abbrev nBuf : Space → Nat
  | .hbm => 63
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .bf16⟩
  | .hbm, ⟨3, _⟩ => ⟨S16384x4096, .bf16⟩
  | .hbm, ⟨4, _⟩ => ⟨S4x4096x12288, .f32⟩
  | .hbm, ⟨5, _⟩ => ⟨S8192x4096, .bf16⟩
  | .hbm, ⟨6, _⟩ => ⟨S8192x4096, .f32⟩
  | .hbm, ⟨7, _⟩ => ⟨S32x256x4096, .f32⟩
  | .hbm, ⟨8, _⟩ => ⟨S1x4096x12288, .f32⟩
  | .hbm, ⟨9, _⟩ => ⟨S4096x12288, .f32⟩
  | .hbm, ⟨10, _⟩ => ⟨S32x256x12288, .f32⟩
  | .hbm, ⟨11, _⟩ => ⟨S32x256x1536, .f32⟩
  | .hbm, ⟨12, _⟩ => ⟨S32x256x1536, .f32⟩
  | .hbm, ⟨13, _⟩ => ⟨S32x256x1536, .f32⟩
  | .hbm, ⟨14, _⟩ => ⟨S32x256x7680, .f32⟩
  | .hbm, ⟨15, _⟩ => ⟨S32x256x12x128, .f32⟩
  | .hbm, ⟨16, _⟩ => ⟨S32x256x12x128, .f32⟩
  | .hbm, ⟨17, _⟩ => ⟨S8192x4096, .bf16⟩
  | .hbm, ⟨18, _⟩ => ⟨S8192x4096, .f32⟩
  | .hbm, ⟨19, _⟩ => ⟨S32x256x4096, .f32⟩
  | .hbm, ⟨20, _⟩ => ⟨S1x4096x12288, .f32⟩
  | .hbm, ⟨21, _⟩ => ⟨S4096x12288, .f32⟩
  | .hbm, ⟨22, _⟩ => ⟨S32x256x12288, .f32⟩
  | .hbm, ⟨23, _⟩ => ⟨S32x256x1536, .f32⟩
  | .hbm, ⟨24, _⟩ => ⟨S32x256x1536, .f32⟩
  | .hbm, ⟨25, _⟩ => ⟨S32x256x1536, .f32⟩
  | .hbm, ⟨26, _⟩ => ⟨S32x256x7680, .f32⟩
  | .hbm, ⟨27, _⟩ => ⟨S32x256x12x128, .f32⟩
  | .hbm, ⟨28, _⟩ => ⟨S32x256x12x128, .f32⟩
  | .hbm, ⟨29, _⟩ => ⟨S8192x4096, .bf16⟩
  | .hbm, ⟨30, _⟩ => ⟨S8192x4096, .f32⟩
  | .hbm, ⟨31, _⟩ => ⟨S32x256x4096, .f32⟩
  | .hbm, ⟨32, _⟩ => ⟨S1x4096x12288, .f32⟩
  | .hbm, ⟨33, _⟩ => ⟨S4096x12288, .f32⟩
  | .hbm, ⟨34, _⟩ => ⟨S32x256x12288, .f32⟩
  | .hbm, ⟨35, _⟩ => ⟨S32x256x1536, .f32⟩
  | .hbm, ⟨36, _⟩ => ⟨S32x256x1536, .f32⟩
  | .hbm, ⟨37, _⟩ => ⟨S32x256x1536, .f32⟩
  | .hbm, ⟨38, _⟩ => ⟨S32x256x7680, .f32⟩
  | .hbm, ⟨39, _⟩ => ⟨S32x256x12x128, .f32⟩
  | .hbm, ⟨40, _⟩ => ⟨S32x256x12x128, .f32⟩
  | .hbm, ⟨41, _⟩ => ⟨S8192x4096, .bf16⟩
  | .hbm, ⟨42, _⟩ => ⟨S8192x4096, .f32⟩
  | .hbm, ⟨43, _⟩ => ⟨S32x256x4096, .f32⟩
  | .hbm, ⟨44, _⟩ => ⟨S1x4096x12288, .f32⟩
  | .hbm, ⟨45, _⟩ => ⟨S4096x12288, .f32⟩
  | .hbm, ⟨46, _⟩ => ⟨S32x256x12288, .f32⟩
  | .hbm, ⟨47, _⟩ => ⟨S32x256x1536, .f32⟩
  | .hbm, ⟨48, _⟩ => ⟨S32x256x1536, .f32⟩
  | .hbm, ⟨49, _⟩ => ⟨S32x256x1536, .f32⟩
  | .hbm, ⟨50, _⟩ => ⟨S32x256x7680, .f32⟩
  | .hbm, ⟨51, _⟩ => ⟨S32x256x12x128, .f32⟩
  | .hbm, ⟨52, _⟩ => ⟨S32x256x12x128, .f32⟩
  | .hbm, ⟨53, _⟩ => ⟨S32x1x256x12x128, .f32⟩
  | .hbm, ⟨54, _⟩ => ⟨S32x1x256x12x128, .f32⟩
  | .hbm, ⟨55, _⟩ => ⟨S32x1x256x12x128, .f32⟩
  | .hbm, ⟨56, _⟩ => ⟨S32x1x256x12x128, .f32⟩
  | .hbm, ⟨57, _⟩ => ⟨S32x4x256x12x128, .f32⟩
  | .hbm, ⟨58, _⟩ => ⟨S32x1x256x12x128, .f32⟩
  | .hbm, ⟨59, _⟩ => ⟨S32x1x256x12x128, .f32⟩
  | .hbm, ⟨60, _⟩ => ⟨S32x1x256x12x128, .f32⟩
  | .hbm, ⟨61, _⟩ => ⟨S32x1x256x12x128, .f32⟩
  | .hbm, ⟨62, _⟩ => ⟨S32x4x256x12x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩

abbrev nD : Nat := 1
abbrev τ : Topo := Topo.v7x

variable {F : FTy → Type} [FloatOps F]
-- ==== KernelOut.lean ====
abbrev S16384x4096 : Shape := ⟨2, ![16384, 4096]⟩
abbrev S4096x4096 : Shape := ⟨2, ![4096, 4096]⟩
abbrev S16x6x1x4096 : Shape := ⟨4, ![16, 6, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16x6x1x4096, .f32⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .f32⟩
  | .local _ .vmem, ⟨9, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.subi v0 c8192_i32
  let c0_i32 : BitVec 32 := 0#32
  let v2 : BitVec 32 := Scalar.maxsi v1 c0_i32
  let c1024_i32_0 : BitVec 32 := 1024#32
  let v3 : BitVec 32 := Scalar.divsi v2 c1024_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_0 c0_i32_3
  let v10 : BitVec 32 := Scalar.extui v9
  let c0_i32_4 : BitVec 32 := 0#32
  let v11 : BitVec 1 := Scalar.cmpi .slt c1024_i32_0 c0_i32_4
  let v12 : BitVec 32 := Scalar.extui v11
  let v13 : BitVec 32 := Scalar.subi v10 v12
  let v14 : BitVec 1 := Scalar.cmpi .ne v8 v13
  let v15 : BitVec 32 := Scalar.remsi v2 c1024_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8192_i32_6 : BitVec 32 := 8192#32
  let v20 : BitVec 1 := Scalar.cmpi .sge v0 c8192_i32_6
  let c1_i32_7 : BitVec 32 := 1#32
  let v21 : BitVec 32 := Scalar.addi v19 c1_i32_7
  let c0_i32_8 : BitVec 32 := 0#32
  let v22 : BitVec 32 := Scalar.select v20 v21 c0_i32_8
  let c2_i32 : BitVec 32 := 2#32
  let c0_i32_9 : BitVec 32 := 0#32
  let c0_i32_10 : BitVec 32 := 0#32
  ![v22.toNat, c2_i32.toNat, c0_i32_9.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutIdeal.lean ====
abbrev S16384x4096 : Shape := ⟨2, ![16384, 4096]⟩
abbrev S4096x4096 : Shape := ⟨2, ![4096, 4096]⟩
abbrev S16x6x1x4096 : Shape := ⟨4, ![16, 6, 1, 4096]⟩
abbrev S16x1x1x4096 : Shape := ⟨4, ![16, 1, 1, 4096]⟩
abbrev S16x1x4096 : Shape := ⟨3, ![16, 1, 4096]⟩
abbrev S8192x4096 : Shape := ⟨2, ![8192, 4096]⟩
abbrev S32x256x4096 : Shape := ⟨3, ![32, 256, 4096]⟩
abbrev S1x1x4096 : Shape := ⟨3, ![1, 1, 4096]⟩
abbrev S8x1024x4096 : Shape := ⟨3, ![8, 1024, 4096]⟩
abbrev S8x1x4096 : Shape := ⟨3, ![8, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16x6x1x4096, .f32⟩
  | .hbm, ⟨4, _⟩ => ⟨S16384x4096, .f32⟩
  | .hbm, ⟨5, _⟩ => ⟨S16384x4096, .f32⟩
  | .hbm, ⟨6, _⟩ => ⟨S16x1x1x4096, .f32⟩
  | .hbm, ⟨7, _⟩ => ⟨S16x1x4096, .f32⟩
  | .hbm, ⟨8, _⟩ => ⟨S8192x4096, .f32⟩
  | .hbm, ⟨9, _⟩ => ⟨S32x256x4096, .f32⟩
  | .hbm, ⟨10, _⟩ => ⟨S1x1x4096, .f32⟩
  | .hbm, ⟨11, _⟩ => ⟨S8192x4096, .f32⟩
  | .hbm, ⟨12, _⟩ => ⟨S32x256x4096, .f32⟩
  | .hbm, ⟨13, _⟩ => ⟨S32x256x4096, .f32⟩
  | .hbm, ⟨14, _⟩ => ⟨S32x256x4096, .f32⟩
  | .hbm, ⟨15, _⟩ => ⟨S32x256x4096, .f32⟩
  | .hbm, ⟨16, _⟩ => ⟨S8192x4096, .f32⟩
  | .hbm, ⟨17, _⟩ => ⟨S8x1024x4096, .f32⟩
  | .hbm, ⟨18, _⟩ => ⟨S8x1x4096, .f32⟩
  | .hbm, ⟨19, _⟩ => ⟨S8192x4096, .f32⟩
  | .hbm, ⟨20, _⟩ => ⟨S8x1024x4096, .f32⟩
  | .hbm, ⟨21, _⟩ => ⟨S8x1024x4096, .f32⟩
  | .hbm, ⟨22, _⟩ => ⟨S8x1024x4096, .f32⟩
  | .hbm, ⟨23, _⟩ => ⟨S8x1024x4096, .f32⟩
  | .hbm, ⟨24, _⟩ => ⟨S8192x4096, .f32⟩
  | .hbm, ⟨25, _⟩ => ⟨S8192x4096, .f32⟩
  | .hbm, ⟨26, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== KernelAda.lean ====
abbrev S16x4096 : Shape := ⟨2, ![16, 4096]⟩
abbrev S4x4096x24576 : Shape := ⟨3, ![4, 4096, 24576]⟩
abbrev S4x24576 : Shape := ⟨2, ![4, 24576]⟩
abbrev S4x1x24576 : Shape := ⟨3, ![4, 1, 24576]⟩
abbrev S4x16x24576 : Shape := ⟨3, ![4, 16, 24576]⟩
abbrev S1x4096x512 : Shape := ⟨3, ![1, 4096, 512]⟩
abbrev S1x1x512 : Shape := ⟨3, ![1, 1, 512]⟩
abbrev S1x16x512 : Shape := ⟨3, ![1, 16, 512]⟩
abbrev S4096x512 : Shape := ⟨2, ![4096, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S4x4096x24576, .f32⟩
  | .hbm, ⟨2, _⟩ => ⟨S4x24576, .f32⟩
  | .hbm, ⟨3, _⟩ => ⟨S4x1x24576, .f32⟩
  | .hbm, ⟨4, _⟩ => ⟨S4x16x24576, .f32⟩
  | .local _ .vmem, ⟨0, _⟩ => ⟨S16x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAdaIdeal.lean ====
abbrev S16x4096 : Shape := ⟨2, ![16, 4096]⟩
abbrev S4x4096x24576 : Shape := ⟨3, ![4, 4096, 24576]⟩
abbrev S4x24576 : Shape := ⟨2, ![4, 24576]⟩
abbrev S_ : Shape := ⟨0, ![]⟩
abbrev S1x4096x24576 : Shape := ⟨3, ![1, 4096, 24576]⟩
abbrev S4096x24576 : Shape := ⟨2, ![4096, 24576]⟩
abbrev S16x24576 : Shape := ⟨2, ![16, 24576]⟩
abbrev S1x24576 : Shape := ⟨2, ![1, 24576]⟩
abbrev S24576 : Shape := ⟨1, ![24576]⟩
abbrev S1x16x24576 : Shape := ⟨3, ![1, 16, 24576]⟩
abbrev S4x16x24576 : Shape := ⟨3, ![4, 16, 24576]⟩

abbrev nBuf : Space → Nat
  | .hbm => 49
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4x4096x24576, .f32⟩
  | .hbm, ⟨2, _⟩ => ⟨S4x24576, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S1x4096x24576, .f32⟩
  | .hbm, ⟨13, _⟩ => ⟨S4096x24576, .f32⟩
  | .hbm, ⟨14, _⟩ => ⟨S16x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S16x24576, .f32⟩
  | .hbm, ⟨19, _⟩ => ⟨S16x24576, .f32⟩
  | .hbm, ⟨20, _⟩ => ⟨S1x4096x24576, .f32⟩
  | .hbm, ⟨21, _⟩ => ⟨S4096x24576, .f32⟩
  | .hbm, ⟨22, _⟩ => ⟨S16x24576, .f32⟩
  | .hbm, ⟨23, _⟩ => ⟨S1x24576, .f32⟩
  | .hbm, ⟨24, _⟩ => ⟨S24576, .f32⟩
  | .hbm, ⟨25, _⟩ => ⟨S1x24576, .f32⟩
  | .hbm, ⟨26, _⟩ => ⟨S16x24576, .f32⟩
  | .hbm, ⟨27, _⟩ => ⟨S16x24576, .f32⟩
  | .hbm, ⟨28, _⟩ => ⟨S1x4096x24576, .f32⟩
  | .hbm, ⟨29, _⟩ => ⟨S4096x24576, .f32⟩
  | .hbm, ⟨30, _⟩ => ⟨S16x24576, .f32⟩
  | .hbm, ⟨31, _⟩ => ⟨S1x24576, .f32⟩
  | .hbm, ⟨32, _⟩ => ⟨S24576, .f32⟩
  | .hbm, ⟨33, _⟩ => ⟨S1x24576, .f32⟩
  | .hbm, ⟨34, _⟩ => ⟨S16x24576, .f32⟩
  | .hbm, ⟨35, _⟩ => ⟨S16x24576, .f32⟩
  | .hbm, ⟨36, _⟩ => ⟨S1x4096x24576, .f32⟩
  | .hbm, ⟨37, _⟩ => ⟨S4096x24576, .f32⟩
  | .hbm, ⟨38, _⟩ => ⟨S16x24576, .f32⟩
  | .hbm, ⟨39, _⟩ => ⟨S1x24576, .f32⟩
  | .hbm, ⟨40, _⟩ => ⟨S24576, .f32⟩
  | .hbm, ⟨41, _⟩ => ⟨S1x24576, .f32⟩
  | .hbm, ⟨42, _⟩ => ⟨S16x24576, .f32⟩
  | .hbm, ⟨43, _⟩ => ⟨S16x24576, .f32⟩
  | .hbm, ⟨44, _⟩ => ⟨S1x16x24576, .f32⟩
  | .hbm, ⟨45, _⟩ => ⟨S1x16x24576, .f32⟩
  | .hbm, ⟨46, _⟩ => ⟨S1x16x24576, .f32⟩
  | .hbm, ⟨47, _⟩ => ⟨S1x16x24576, .f32⟩
  | .hbm, ⟨48, _⟩ => ⟨S4x16x24576, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== KernelModA.lean ====
abbrev S16384x4096 : Shape := ⟨2, ![16384, 4096]⟩
abbrev S4096 : Shape := ⟨1, ![4096]⟩
abbrev S16x6x1x4096 : Shape := ⟨4, ![16, 6, 1, 4096]⟩
abbrev S1x4096 : Shape := ⟨2, ![1, 4096]⟩
abbrev S256x4096 : Shape := ⟨2, ![256, 4096]⟩
abbrev S1x1x1x4096 : Shape := ⟨4, ![1, 1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16x6x1x4096, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S256x4096, .bf16⟩
  | .local _ .vmem, ⟨8, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.subi v0 c8192_i32
  let c0_i32 : BitVec 32 := 0#32
  let v2 : BitVec 32 := Scalar.maxsi v1 c0_i32
  let c1024_i32 : BitVec 32 := 1024#32
  let v3 : BitVec 32 := Scalar.divsi v2 c1024_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8192_i32_5 : BitVec 32 := 8192#32
  let v20 : BitVec 1 := Scalar.cmpi .sge v0 c8192_i32_5
  let c1_i32_6 : BitVec 32 := 1#32
  let v21 : BitVec 32 := Scalar.addi v19 c1_i32_6
  let c0_i32_7 : BitVec 32 := 0#32
  let v22 : BitVec 32 := Scalar.select v20 v21 c0_i32_7
  let c1_i32_8 : BitVec 32 := 1#32
  let c0_i32_9 : BitVec 32 := 0#32
  let c0_i32_10 : BitVec 32 := 0#32
  let c0_i32_11 : BitVec 32 := 0#32
  ![v22.toNat, c1_i32_8.toNat, c0_i32_9.toNat, c0_i32_10.toNat]

def cc0_transform_3 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.subi v0 c8192_i32
  let c0_i32 : BitVec 32 := 0#32
  let v2 : BitVec 32 := Scalar.maxsi v1 c0_i32
  let c1024_i32 : BitVec 32 := 1024#32
  let v3 : BitVec 32 := Scalar.divsi v2 c1024_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8192_i32_5 : BitVec 32 := 8192#32
  let v20 : BitVec 1 := Scalar.cmpi .sge v0 c8192_i32_5
  let c1_i32_6 : BitVec 32 := 1#32
  let v21 : BitVec 32 := Scalar.addi v19 c1_i32_6
  let c0_i32_7 : BitVec 32 := 0#32
  let v22 : BitVec 32 := Scalar.select v20 v21 c0_i32_7
  let c0_i32_8 : BitVec 32 := 0#32
  let c0_i32_9 : BitVec 32 := 0#32
  let c0_i32_10 : BitVec 32 := 0#32
  let c0_i32_11 : BitVec 32 := 0#32
  ![v22.toNat, c0_i32_8.toNat, c0_i32_9.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceModAIdeal.lean ====
abbrev S16384x4096 : Shape := ⟨2, ![16384, 4096]⟩
abbrev S4096 : Shape := ⟨1, ![4096]⟩
abbrev S16x6x1x4096 : Shape := ⟨4, ![16, 6, 1, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16x1x1x4096 : Shape := ⟨4, ![16, 1, 1, 4096]⟩
abbrev S16x1x4096 : Shape := ⟨3, ![16, 1, 4096]⟩
abbrev S8192x4096 : Shape := ⟨2, ![8192, 4096]⟩
abbrev S32x256x4096 : Shape := ⟨3, ![32, 256, 4096]⟩
abbrev S1x1x4096 : Shape := ⟨3, ![1, 1, 4096]⟩
abbrev S8x1024x4096 : Shape := ⟨3, ![8, 1024, 4096]⟩
abbrev S8x1x4096 : Shape := ⟨3, ![8, 1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16x6x1x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16x1x1x4096, .f32⟩
  | .hbm, ⟨20, _⟩ => ⟨S16x1x4096, .f32⟩
  | .hbm, ⟨21, _⟩ => ⟨S16x1x1x4096, .f32⟩
  | .hbm, ⟨22, _⟩ => ⟨S16x1x4096, .f32⟩
  | .hbm, ⟨23, _⟩ => ⟨S8192x4096, .f32⟩
  | .hbm, ⟨24, _⟩ => ⟨S32x256x4096, .f32⟩
  | .hbm, ⟨25, _⟩ => ⟨S1x1x4096, .f32⟩
  | .hbm, ⟨26, _⟩ => ⟨S_, .f32⟩
  | .hbm, ⟨27, _⟩ => ⟨S1x1x4096, .f32⟩
  | .hbm, ⟨28, _⟩ => ⟨S1x1x4096, .f32⟩
  | .hbm, ⟨29, _⟩ => ⟨S32x256x4096, .f32⟩
  | .hbm, ⟨30, _⟩ => ⟨S32x256x4096, .f32⟩
  | .hbm, ⟨31, _⟩ => ⟨S1x1x4096, .f32⟩
  | .hbm, ⟨32, _⟩ => ⟨S32x256x4096, .f32⟩
  | .hbm, ⟨33, _⟩ => ⟨S32x256x4096, .f32⟩
  | .hbm, ⟨34, _⟩ => ⟨S8192x4096, .f32⟩
  | .hbm, ⟨35, _⟩ => ⟨S8x1024x4096, .f32⟩
  | .hbm, ⟨36, _⟩ => ⟨S8x1x4096, .f32⟩
  | .hbm, ⟨37, _⟩ => ⟨S_, .f32⟩
  | .hbm, ⟨38, _⟩ => ⟨S8x1x4096, .f32⟩
  | .hbm, ⟨39, _⟩ => ⟨S8x1x4096, .f32⟩
  | .hbm, ⟨40, _⟩ => ⟨S8x1024x4096, .f32⟩
  | .hbm, ⟨41, _⟩ => ⟨S8x1024x4096, .f32⟩
  | .hbm, ⟨42, _⟩ => ⟨S8x1x4096, .f32⟩
  | .hbm, ⟨43, _⟩ => ⟨S8x1024x4096, .f32⟩
  | .hbm, ⟨44, _⟩ => ⟨S8x1024x4096, .f32⟩
  | .hbm, ⟨45, _⟩ => ⟨S8192x4096, .f32⟩
  | .hbm, ⟨46, _⟩ => ⟨S8192x4096, .f32⟩
  | .hbm, ⟨47, _⟩ => ⟨S16384x4096, .f32⟩
  | .hbm, ⟨48, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== KernelModB.lean ====
abbrev S16384x4096 : Shape := ⟨2, ![16384, 4096]⟩
abbrev S4096 : Shape := ⟨1, ![4096]⟩
abbrev S16x6x1x4096 : Shape := ⟨4, ![16, 6, 1, 4096]⟩
abbrev S1x4096 : Shape := ⟨2, ![1, 4096]⟩
abbrev S256x4096 : Shape := ⟨2, ![256, 4096]⟩
abbrev S1x1x1x4096 : Shape := ⟨4, ![1, 1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16x6x1x4096, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S256x4096, .bf16⟩
  | .local _ .vmem, ⟨8, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.subi v0 c8192_i32
  let c0_i32 : BitVec 32 := 0#32
  let v2 : BitVec 32 := Scalar.maxsi v1 c0_i32
  let c1024_i32 : BitVec 32 := 1024#32
  let v3 : BitVec 32 := Scalar.divsi v2 c1024_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8192_i32_5 : BitVec 32 := 8192#32
  let v20 : BitVec 1 := Scalar.cmpi .sge v0 c8192_i32_5
  let c1_i32_6 : BitVec 32 := 1#32
  let v21 : BitVec 32 := Scalar.addi v19 c1_i32_6
  let c0_i32_7 : BitVec 32 := 0#32
  let v22 : BitVec 32 := Scalar.select v20 v21 c0_i32_7
  let c4_i32 : BitVec 32 := 4#32
  let c0_i32_8 : BitVec 32 := 0#32
  let c0_i32_9 : BitVec 32 := 0#32
  let c0_i32_10 : BitVec 32 := 0#32
  ![v22.toNat, c4_i32.toNat, c0_i32_8.toNat, c0_i32_9.toNat]

def cc0_transform_3 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.subi v0 c8192_i32
  let c0_i32 : BitVec 32 := 0#32
  let v2 : BitVec 32 := Scalar.maxsi v1 c0_i32
  let c1024_i32 : BitVec 32 := 1024#32
  let v3 : BitVec 32 := Scalar.divsi v2 c1024_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8192_i32_5 : BitVec 32 := 8192#32
  let v20 : BitVec 1 := Scalar.cmpi .sge v0 c8192_i32_5
  let c1_i32_6 : BitVec 32 := 1#32
  let v21 : BitVec 32 := Scalar.addi v19 c1_i32_6
  let c0_i32_7 : BitVec 32 := 0#32
  let v22 : BitVec 32 := Scalar.select v20 v21 c0_i32_7
  let c3_i32 : BitVec 32 := 3#32
  let c0_i32_8 : BitVec 32 := 0#32
  let c0_i32_9 : BitVec 32 := 0#32
  let c0_i32_10 : BitVec 32 := 0#32
  ![v22.toNat, c3_i32.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceModBIdeal.lean ====
abbrev S16384x4096 : Shape := ⟨2, ![16384, 4096]⟩
abbrev S4096 : Shape := ⟨1, ![4096]⟩
abbrev S16x6x1x4096 : Shape := ⟨4, ![16, 6, 1, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16x1x1x4096 : Shape := ⟨4, ![16, 1, 1, 4096]⟩
abbrev S16x1x4096 : Shape := ⟨3, ![16, 1, 4096]⟩
abbrev S8192x4096 : Shape := ⟨2, ![8192, 4096]⟩
abbrev S32x256x4096 : Shape := ⟨3, ![32, 256, 4096]⟩
abbrev S1x1x4096 : Shape := ⟨3, ![1, 1, 4096]⟩
abbrev S8x1024x4096 : Shape := ⟨3, ![8, 1024, 4096]⟩
abbrev S8x1x4096 : Shape := ⟨3, ![8, 1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16x6x1x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16x1x1x4096, .f32⟩
  | .hbm, ⟨20, _⟩ => ⟨S16x1x4096, .f32⟩
  | .hbm, ⟨21, _⟩ => ⟨S16x1x1x4096, .f32⟩
  | .hbm, ⟨22, _⟩ => ⟨S16x1x4096, .f32⟩
  | .hbm, ⟨23, _⟩ => ⟨S8192x4096, .f32⟩
  | .hbm, ⟨24, _⟩ => ⟨S32x256x4096, .f32⟩
  | .hbm, ⟨25, _⟩ => ⟨S1x1x4096, .f32⟩
  | .hbm, ⟨26, _⟩ => ⟨S_, .f32⟩
  | .hbm, ⟨27, _⟩ => ⟨S1x1x4096, .f32⟩
  | .hbm, ⟨28, _⟩ => ⟨S1x1x4096, .f32⟩
  | .hbm, ⟨29, _⟩ => ⟨S32x256x4096, .f32⟩
  | .hbm, ⟨30, _⟩ => ⟨S32x256x4096, .f32⟩
  | .hbm, ⟨31, _⟩ => ⟨S1x1x4096, .f32⟩
  | .hbm, ⟨32, _⟩ => ⟨S32x256x4096, .f32⟩
  | .hbm, ⟨33, _⟩ => ⟨S32x256x4096, .f32⟩
  | .hbm, ⟨34, _⟩ => ⟨S8192x4096, .f32⟩
  | .hbm, ⟨35, _⟩ => ⟨S8x1024x4096, .f32⟩
  | .hbm, ⟨36, _⟩ => ⟨S8x1x4096, .f32⟩
  | .hbm, ⟨37, _⟩ => ⟨S_, .f32⟩
  | .hbm, ⟨38, _⟩ => ⟨S8x1x4096, .f32⟩
  | .hbm, ⟨39, _⟩ => ⟨S8x1x4096, .f32⟩
  | .hbm, ⟨40, _⟩ => ⟨S8x1024x4096, .f32⟩
  | .hbm, ⟨41, _⟩ => ⟨S8x1024x4096, .f32⟩
  | .hbm, ⟨42, _⟩ => ⟨S8x1x4096, .f32⟩
  | .hbm, ⟨43, _⟩ => ⟨S8x1024x4096, .f32⟩
  | .hbm, ⟨44, _⟩ => ⟨S8x1024x4096, .f32⟩
  | .hbm, ⟨45, _⟩ => ⟨S8192x4096, .f32⟩
  | .hbm, ⟨46, _⟩ => ⟨S8192x4096, .f32⟩
  | .hbm, ⟨47, _⟩ => ⟨S16384x4096, .f32⟩
  | .hbm, ⟨48, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== KernelPrompt.lean ====
abbrev S16384x4096 : Shape := ⟨2, ![16384, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩
abbrev S32x256x4096 : Shape := ⟨3, ![32, 256, 4096]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S32x256x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePromptIdeal.lean ====
abbrev S16384x4096 : Shape := ⟨2, ![16384, 4096]⟩
abbrev S4096 : Shape := ⟨1, ![4096]⟩
abbrev S8192x4096 : Shape := ⟨2, ![8192, 4096]⟩
abbrev S32x256x4096 : Shape := ⟨3, ![32, 256, 4096]⟩
abbrev S_ : Shape := ⟨0, ![]⟩
abbrev S32x256 : Shape := ⟨2, ![32, 256]⟩
abbrev S32x256x1 : Shape := ⟨3, ![32, 256, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8192x4096, .f32⟩
  | .hbm, ⟨3, _⟩ => ⟨S32x256x4096, .f32⟩
  | .hbm, ⟨4, _⟩ => ⟨S32x256x4096, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x4096, .f32⟩
  | .hbm, ⟨16, _⟩ => ⟨S32x256x4096, .f32⟩
  | .hbm, ⟨17, _⟩ => ⟨S1x1x4096, .f32⟩
  | .hbm, ⟨18, _⟩ => ⟨S32x256x4096, .f32⟩
  | .hbm, ⟨19, _⟩ => ⟨S32x256x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelSample.lean ====
abbrev S16384x4096 : Shape := ⟨2, ![16384, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩
abbrev S8x1024x4096 : Shape := ⟨3, ![8, 1024, 4096]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S8x1024x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceSampleIdeal.lean ====
abbrev S16384x4096 : Shape := ⟨2, ![16384, 4096]⟩
abbrev S4096 : Shape := ⟨1, ![4096]⟩
abbrev S8192x4096 : Shape := ⟨2, ![8192, 4096]⟩
abbrev S8x1024x4096 : Shape := ⟨3, ![8, 1024, 4096]⟩
abbrev S_ : Shape := ⟨0, ![]⟩
abbrev S8x1024 : Shape := ⟨2, ![8, 1024]⟩
abbrev S8x1024x1 : Shape := ⟨3, ![8, 1024, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8192x4096, .f32⟩
  | .hbm, ⟨3, _⟩ => ⟨S8x1024x4096, .f32⟩
  | .hbm, ⟨4, _⟩ => ⟨S8x1024x4096, .f32⟩
  | .hbm, ⟨5, _⟩ => ⟨S_, .f32⟩
  | .hbm, ⟨6, _⟩ => ⟨S8x1024, .f32⟩
  | .hbm, ⟨7, _⟩ => ⟨S8x1024x1, .f32⟩
  | .hbm, ⟨8, _⟩ => ⟨S_, .f32⟩
  | .hbm, ⟨9, _⟩ => ⟨S8x1024x1, .f32⟩
  | .hbm, ⟨10, _⟩ => ⟨S8x1024x1, .f32⟩
  | .hbm, ⟨11, _⟩ => ⟨S_, .f32⟩
  | .hbm, ⟨12, _⟩ => ⟨S8x1024x1, .f32⟩
  | .hbm, ⟨13, _⟩ => ⟨S8x1024x1, .f32⟩
  | .hbm, ⟨14, _⟩ => ⟨S8x1024x1, .f32⟩
  | .hbm, ⟨15, _⟩ => ⟨S8x1024x4096, .f32⟩
  | .hbm, ⟨16, _⟩ => ⟨S8x1024x4096, .f32⟩
  | .hbm, ⟨17, _⟩ => ⟨S1x1x4096, .f32⟩
  | .hbm, ⟨18, _⟩ => ⟨S8x1024x4096, .f32⟩
  | .hbm, ⟨19, _⟩ => ⟨S8x1024x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelSsdNorm.lean ====
abbrev S16384x1536 : Shape := ⟨2, ![16384, 1536]⟩
abbrev S1536 : Shape := ⟨1, ![1536]⟩
abbrev S1x1536 : Shape := ⟨2, ![1, 1536]⟩
abbrev S256x1536 : Shape := ⟨2, ![256, 1536]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1536, .f32⟩
  | .hbm, ⟨1, _⟩ => ⟨S1536, .f32⟩
  | .hbm, ⟨2, _⟩ => ⟨S1x1536, .f32⟩
  | .hbm, ⟨3, _⟩ => ⟨S16384x1536, .bf16⟩
  | .local _ .vmem, ⟨0, _⟩ => ⟨S256x1536, .f32⟩
  | .local _ .vmem, ⟨1, _⟩ => ⟨S256x1536, .f32⟩
  | .local _ .vmem, ⟨2, _⟩ => ⟨S1x1536, .f32⟩
  | .local _ .vmem, ⟨3, _⟩ => ⟨S256x1536, .bf16⟩
  | .local _ .vmem, ⟨4, _⟩ => ⟨S256x1536, .bf16⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceSsdNormIdeal.lean ====
abbrev S16384x1536 : Shape := ⟨2, ![16384, 1536]⟩
abbrev S1536 : Shape := ⟨1, ![1536]⟩
abbrev S_ : Shape := ⟨0, ![]⟩
abbrev S16384 : Shape := ⟨1, ![16384]⟩
abbrev S16384x1 : Shape := ⟨2, ![16384, 1]⟩
abbrev S1x1536 : Shape := ⟨2, ![1, 1536]⟩

abbrev nBuf : Space → Nat
  | .hbm => 19
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S1536, .f32⟩
  | .hbm, ⟨2, _⟩ => ⟨S16384x1536, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1536, .f32⟩
  | .hbm, ⟨14, _⟩ => ⟨S16384x1536, .f32⟩
  | .hbm, ⟨15, _⟩ => ⟨S1x1536, .f32⟩
  | .hbm, ⟨16, _⟩ => ⟨S16384x1536, .f32⟩
  | .hbm, ⟨17, _⟩ => ⟨S16384x1536, .f32⟩
  | .hbm, ⟨18, _⟩ => ⟨S16384x1536, .bf16⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelHyNorm.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceHyNormIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.AttScalar.lean ====
module

public import Idealize.ShloMosaic.PureOps.Ideal
public import Idealize.ShloMosaic.Lib.IdealHost
public import Idealize.ShloMosaic.Lib.StableHlo

/-!
  The arithmetic of the attention in the extended reals, free of any program: a scaled score summed over half of a
  masked head is the scaled score of that half, a row of finite scores has a softmax denominator that is not zero, and
  products with reciprocals of such denominators are quotients.
-/

@[expose] public section

noncomputable section

namespace Cert.Proof.AttScalar

open Idealize.ShloMosaic

/-- The word of minus infinity, at which the maxima start. -/
abbrev start : EReal := Ideal.ofBits .f32 0xFF800000#32

/-- The word of one eighth, by which the scores are scaled. -/
abbrev eighth : EReal := Ideal.ofBits .f32 0x3E000000#32

/-- The largest of 256 scores. -/
abbrev top (s : Fin 256 → EReal) : EReal := Finset.univ.fold max start s

/-- The exponential of a score's distance to the largest score. -/
abbrev ex (s : Fin 256 → EReal) (j : Fin 256) : EReal := Ideal.exp (s j - top s)

/-- The scaled scores of a query's first 64 lanes against every key's. -/
def firstScores (q : Fin 128 → EReal) (k : Fin 256 → Fin 128 → EReal) (j : Fin 256) : EReal :=
  (∑ x : Fin 64, q ⟨x, by omega⟩ * k j ⟨x, by omega⟩) * eighth

/-- The scaled scores of a query's last 64 lanes against every key's. -/
def lastScores (q : Fin 128 → EReal) (k : Fin 256 → Fin 128 → EReal) (j : Fin 256) : EReal :=
  (∑ x : Fin 64, q ⟨64 + x, by omega⟩ * k j ⟨64 + x, by omega⟩) * eighth

/-- The scalar by which the second map is weighed. -/
def mixing (l : Fin 4 → Fin 64 → EReal) : EReal :=
  Ideal.exp (∑ x, l 0 x * l 1 x) - Ideal.exp (∑ x, l 2 x * l 3 x) + Ideal.ofBits .f32 0x3E4CCCCD#32

/-- The difference of two softmax rows at a key. -/
def weight (a : EReal) (s t : Fin 256 → EReal) (j : Fin 256) : EReal :=
  Ideal.div (ex s j) (∑ x, ex s x) - a * Ideal.div (ex t j) (∑ x, ex t x)

/-- A head's normalised row, with its gain and the constant factor. -/
def normed (o g : Fin 128 → EReal) (d : Fin 128) : EReal :=
  o d * Ideal.rsqrt (Ideal.div (∑ x, o x * o x) (Ideal.ofBits .f32 0x43000000#32) + Ideal.ofBits .f32 0x358637BD#32) * g d
    * Ideal.ofBits .f32 0x3F4CCCCD#32

/-- A query's row of the attention of one head, from the mixing vectors, the gain, the query and all keys and values. -/
def attended (l : Fin 4 → Fin 64 → EReal) (g q : Fin 128 → EReal) (k v : Fin 256 → Fin 128 → EReal) (d : Fin 128) : EReal :=
  normed (fun d => ∑ x, v x d * weight (mixing l) (firstScores q k) (lastScores q k) x) g d

/-- The maxima start at the least element. -/
theorem start_eq : start = ⊥ := by
  simp [start, Ideal.ofBits, Ideal.ieee]

/-- The scale is a real number. -/
theorem eighth_real : ∃ r : ℝ, eighth = (r : EReal) := by
  simp only [eighth, Ideal.ofBits, Ideal.ieee]
  rw [if_neg (by decide), if_neg (by decide)]
  exact ⟨_, rfl⟩

/-- A number whose absolute value compares below plus infinity is a real number. -/
theorem real_of_below (x : EReal) (h : BitVec.ofBool (decide (max x (-x) < Ideal.ofBits .f32 0x7F800000#32)) = 1#1) :
    ∃ r : ℝ, x = (r : EReal) := by
  have hlt : max x (-x) < Ideal.ofBits .f32 0x7F800000#32 := by
    by_contra hn
    rw [decide_eq_false hn] at h
    exact absurd h (by decide)
  have hx : x ≠ ⊤ := fun e => not_top_lt ((le_max_left x (-x)).trans_lt hlt |> fun q => by rwa [e] at q)
  have hy : x ≠ ⊥ := fun e => not_top_lt ((le_max_right x (-x)).trans_lt hlt |> fun q => by rwa [e, EReal.neg_bot] at q)
  exact ⟨x.toReal, (EReal.coe_toReal hx hy).symm⟩

/-- A maximum is at least the value at which it starts. -/
theorem max_start (s : Fin 256 → EReal) : max start (top s) = top s :=
  max_eq_right ((Finset.le_fold_max start).2 (Or.inl le_rfl))

/-- An exponential is not negative. -/
theorem exp_nonneg (x : EReal) : 0 ≤ Ideal.exp x := by
  induction x using EReal.rec with
  | bot => exact le_rfl
  | top => exact le_top
  | coe r => exact EReal.coe_nonneg.2 (Real.exp_pos r).le

/-- The softmax denominator of a row of real scores is not zero. -/
theorem total_ne (s : Fin 256 → EReal) (hs : ∀ j, ∃ r : ℝ, s j = (r : EReal)) : (∑ j, ex s j) ≠ 0 := by
  have hex : ∃ j, top s ≤ s j := by
    rcases (Finset.le_fold_max (f := s) (b := start) (s := Finset.univ) (top s)).1 le_rfl with h | ⟨j, _, h⟩
    · refine ⟨0, h.trans ?_⟩
      rw [start_eq]
      exact bot_le
    · exact ⟨j, h⟩
  obtain ⟨j, hj⟩ := hex
  have hle : s j ≤ top s := (Finset.le_fold_max (s j)).2 (Or.inr ⟨j, Finset.mem_univ j, le_rfl⟩)
  have hone : ex s j = 1 := by
    have htop : top s = s j := le_antisymm hj hle
    obtain ⟨r, hr⟩ := hs j
    show Ideal.exp (s j - top s) = 1
    rw [htop, hr, ← EReal.coe_sub, sub_self, Ideal.exp_coe, Real.exp_zero, EReal.coe_one]
  have hsum : (1 : EReal) ≤ ∑ i, ex s i := by
    rw [← hone]
    exact Finset.single_le_sum (f := ex s) (fun i _ => exp_nonneg _) (Finset.mem_univ j)
  intro h0
  rw [h0] at hsum
  exact absurd hsum (not_le.2 zero_lt_one)

/-- The coercion of a sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A scale inside a sum of products of reals may be taken out. -/
theorem scale_out (q k : Fin 64 → EReal) (hq : ∀ x, ∃ r : ℝ, q x = (r : EReal)) (hk : ∀ x, ∃ r : ℝ, k x = (r : EReal)) :
    (∑ x, q x * eighth * k x) = (∑ x, q x * k x) * eighth := by
  choose a ha using hq
  choose b hb using hk
  obtain ⟨c, hc⟩ := eighth_real
  simp only [ha, hb, hc, ← EReal.coe_mul, ← coe_sum]
  rw [Finset.sum_mul]
  exact congrArg _ (Finset.sum_congr rfl fun x _ => by ring)

/-- A scaled sum of products of reals is a real. -/
theorem score_real (q k : Fin 64 → EReal) (hq : ∀ x, ∃ r : ℝ, q x = (r : EReal)) (hk : ∀ x, ∃ r : ℝ, k x = (r : EReal)) :
    ∃ r : ℝ, (∑ x, q x * k x) * eighth = (r : EReal) := by
  choose a ha using hq
  choose b hb using hk
  obtain ⟨c, hc⟩ := eighth_real
  exact ⟨(∑ x, a x * b x) * c, by simp only [ha, hb, hc, ← EReal.coe_mul, ← coe_sum]⟩

/-- The first half of a head is where the lane index is below 64. -/
theorem lane_first : ∀ x : Fin 64, IntOp.cmpi .slt (BitVec.ofNat 32 ((Fin.castAdd 64 x : Fin (64 + 64)) : ℕ)) 64#32 = 1#1 := by
  decide

/-- The second half of a head is where the lane index is not below 64. -/
theorem lane_second : ∀ x : Fin 64, IntOp.cmpi .slt (BitVec.ofNat 32 ((Fin.natAdd 64 x : Fin (64 + 64)) : ℕ)) 64#32 = 0#1 := by
  decide

/-- A sum over a head of terms masked to its first half is the sum over the first half. -/
theorem half_first (f : Fin 128 → EReal) :
    (∑ x : Fin 128, Scalar.select (IntOp.cmpi .slt (BitVec.ofNat 32 (x : ℕ)) 64#32) (f x) (0 : EReal))
      = ∑ x : Fin 64, f ⟨x, by omega⟩ := by
  rw [show (∑ x : Fin 128, Scalar.select (IntOp.cmpi .slt (BitVec.ofNat 32 (x : ℕ)) 64#32) (f x) (0 : EReal))
      = ∑ x : Fin (64 + 64), Scalar.select (IntOp.cmpi .slt (BitVec.ofNat 32 (x : ℕ)) 64#32) (f x) (0 : EReal) from rfl,
    Fin.sum_univ_add]
  simp only [lane_first, lane_second, Scalar.select]
  simp
  rfl

/-- A sum over a head of terms masked to its second half is the sum over the second half. -/
theorem half_second (f : Fin 128 → EReal) :
    (∑ x : Fin 128, Scalar.select (IntOp.cmpi .slt (BitVec.ofNat 32 (x : ℕ)) 64#32) (0 : EReal) (f x))
      = ∑ x : Fin 64, f ⟨64 + x, by omega⟩ := by
  rw [show (∑ x : Fin 128, Scalar.select (IntOp.cmpi .slt (BitVec.ofNat 32 (x : ℕ)) 64#32) (0 : EReal) (f x))
      = ∑ x : Fin (64 + 64), Scalar.select (IntOp.cmpi .slt (BitVec.ofNat 32 (x : ℕ)) 64#32) (0 : EReal) (f x) from rfl,
    Fin.sum_univ_add]
  simp only [lane_first, lane_second, Scalar.select]
  simp
  rfl

/-- The weight by reciprocals is the weight by quotients, where the denominators are not zero. -/
theorem weight_eq (e₁ e₂ t₁ t₂ a : EReal) (h₁ : t₁ ≠ 0) (h₂ : t₂ ≠ 0) :
    e₁ * Ideal.div 1 t₁ - e₂ * (Ideal.div 1 t₂ * a) = Ideal.div e₁ t₁ - a * Ideal.div e₂ t₂ := by
  rw [← mul_assoc, Ideal.mul_one_div h₁, Ideal.mul_one_div h₂, mul_comm a]

end Cert.Proof.AttScalar
-- ==== Proof.AttKernel.lean ====
/-
  The kernel of the differential attention: what it computes for one head of one sequence, read at an index.
-/
module

public import proofs.«01_k».proof.Proof.Gen.KernelAttIdeal.Frame
public import proofs.«01_k».proof.Proof.AttScalar
public import Idealize.ShloMosaic.Lib.Pipeline.ValueKit
public import Idealize.ShloMosaic.Lib.Pointwise
public import Idealize.ShloMosaic.Lib.Claim

@[expose] public section

set_option maxRecDepth 16384

noncomputable section

namespace Cert.Proof.AttKernel

open Cert.KernelAttIdeal Cert.KernelAttIdeal.Gen Idealize.ShloMosaic Idealize.ShloMosaic.TcCoe Idealize.SL.Sem
open Cert.Proof.AttScalar (start eighth top ex firstScores lastScores mixing weight attended)

/-- One head as the first of a point's four heads is computed. -/
def head (l : FVec Ideal S4x64 .f32) (g : FVec Ideal S1x128 .f32) (q k v : FVec Ideal S256x128 .f32) : FVec Ideal S256x128 .bf16 :=
  k0_pay10 (F := Ideal) (k0_pay3 (F := Ideal) g) (k0_pay8 (F := Ideal) (k0_pay2 (F := Ideal) l) k0_pay4 (k0_pay7 (F := Ideal) q) (k0_pay5 (F := Ideal) k) (k0_pay6 (F := Ideal) v))
    (k0_pay9 (F := Ideal) (k0_pay2 (F := Ideal) l) k0_pay4 (k0_pay7 (F := Ideal) q) (k0_pay5 (F := Ideal) k) (k0_pay6 (F := Ideal) v)) (Scalar.ofBits .f32 0x358637BD#32)

/-- The second head of a point is computed the same way. -/
theorem head_second (l : FVec Ideal S4x64 .f32) (g : FVec Ideal S1x128 .f32) (q k v : FVec Ideal S256x128 .f32) :
    k0_pay16 (F := Ideal) (k0_pay2 (F := Ideal) l) (k0_pay3 (F := Ideal) g) (k0_pay14 (F := Ideal) k0_pay4 q (k0_pay11 (F := Ideal) k)) (k0_pay15 (F := Ideal) k0_pay4 q (k0_pay11 (F := Ideal) k)) (k0_pay12 (F := Ideal) v)
      = head l g q k v := by
  unfold head k0_pay16 k0_pay14 k0_pay15 k0_pay13 k0_pay11 k0_pay12 k0_pay10 k0_pay9 k0_pay8 k0_pay7 k0_pay5 k0_pay6
  with_reducible rfl

/-- The third head of a point is computed the same way. -/
theorem head_third (l : FVec Ideal S4x64 .f32) (g : FVec Ideal S1x128 .f32) (q k v : FVec Ideal S256x128 .f32) :
    k0_pay23 (F := Ideal) (k0_pay3 (F := Ideal) g) (k0_pay20 (F := Ideal) k0_pay4 q (k0_pay17 (F := Ideal) k)) (k0_pay21 (F := Ideal) k0_pay4 q (k0_pay17 (F := Ideal) k))
        (k0_pay22 (F := Ideal) (k0_pay2 (F := Ideal) l) k0_pay4 q (k0_pay17 (F := Ideal) k)) (k0_pay18 (F := Ideal) v)
      = head l g q k v := by
  unfold head k0_pay23 k0_pay22 k0_pay20 k0_pay21 k0_pay19 k0_pay17 k0_pay18 k0_pay10 k0_pay9 k0_pay8 k0_pay7 k0_pay5 k0_pay6
  with_reducible rfl

/-- The fourth head of a point is computed the same way. -/
theorem head_fourth (l : FVec Ideal S4x64 .f32) (g : FVec Ideal S1x128 .f32) (q k v : FVec Ideal S256x128 .f32) :
    k0_pay1 (F := Ideal) (k0_pay29 (F := Ideal) (k0_pay2 (F := Ideal) l) k0_pay4 (k0_pay26 (F := Ideal) q) (k0_pay27 (F := Ideal) k0_pay4 q) (k0_pay28 (F := Ideal)) (k0_pay24 (F := Ideal) k) (k0_pay25 (F := Ideal) v)) (k0_pay30 (F := Ideal) (k0_pay3 (F := Ideal) g))
      = head l g q k v := by
  unfold head k0_pay1 k0_pay29 k0_pay27 k0_pay26 k0_pay28 k0_pay24 k0_pay25 k0_pay30 k0_pay10 k0_pay9 k0_pay8 k0_pay7 k0_pay5 k0_pay6
  with_reducible rfl

/-- The mixing scalar. -/
theorem lam_at (l : FVec Ideal S4x64 .f32) (j : S1x1.Idx) : k0_pay2 (F := Ideal) l j = mixing (fun a x => l (ix2 a x)) := by
  unfold mixing
  pointwise [k0_pay2]

/-- The scores of a query's masked first lanes against every key, as the kernel sums them. -/
def maskedFirst (q k : FVec Ideal S256x128 .f32) (i j : Fin 256) : EReal :=
  ∑ x : Fin 128, Scalar.select (IntOp.cmpi .slt (BitVec.ofNat 32 (x : ℕ)) 64#32) (q (ix2 i x) * eighth * k (ix2 j x)) (0 : EReal)

/-- The scores of a query's masked last lanes against every key, as the kernel sums them. -/
def maskedLast (q k : FVec Ideal S256x128 .f32) (i j : Fin 256) : EReal :=
  ∑ x : Fin 128, Scalar.select (IntOp.cmpi .slt (BitVec.ofNat 32 (x : ℕ)) 64#32) (0 : EReal) (q (ix2 i x) * eighth * k (ix2 j x))

/-- The weighted values before the norm. -/
theorem out_at (a : FVec Ideal S1x1 .f32) (q k v : FVec Ideal S256x128 .f32) (i : Fin 256) (d : Fin 128) :
    k0_pay8 (F := Ideal) a k0_pay4 (k0_pay7 (F := Ideal) q) (k0_pay5 (F := Ideal) k) (k0_pay6 (F := Ideal) v) (ix2 i d)
      = ∑ x : Fin 256, (ex (maskedFirst q k i) x * Ideal.div 1 (∑ y, ex (maskedFirst q k i) y)
          - ex (maskedLast q k i) x * (Ideal.div 1 (∑ y, ex (maskedLast q k i) y) * a (ix2 0 0))) * v (ix2 x d) := by
  unfold ex top maskedFirst maskedLast
  pointwise [k0_pay8, k0_pay4, k0_pay7, k0_pay5, k0_pay6]

/-- The mean square of a row. -/
theorem mean_at (a : FVec Ideal S1x1 .f32) (b : IVec S256x128 1) (q k v : FVec Ideal S256x128 .f32) (i : Fin 256) :
    k0_pay9 (F := Ideal) a b q k v (ix2 i 0)
      = Ideal.div (∑ x : Fin 128, k0_pay8 (F := Ideal) a b q k v (ix2 i x) * k0_pay8 (F := Ideal) a b q k v (ix2 i x))
          (Ideal.ofBits .f32 0x43000000#32) := by
  pointwise [k0_pay9]

/-- A normalised entry. -/
theorem norm_at (g : FVec Ideal S1x128 .f32) (o : FVec Ideal S256x128 .f32) (r : FVec Ideal S256x1 .f32) (i : Fin 256) (d : Fin 128) :
    k0_pay10 (F := Ideal) (k0_pay3 (F := Ideal) g) o r (Scalar.ofBits .f32 0x358637BD#32) (ix2 i d)
      = o (ix2 i d) * Ideal.rsqrt (r (ix2 i 0) + Ideal.ofBits .f32 0x358637BD#32) * (g (ix2 0 d) * Ideal.ofBits .f32 0x3F4CCCCD#32) := by
  pointwise [k0_pay10, k0_pay3]

/-- The masked first scores are the scores of the first lanes, of finite queries and keys. -/
theorem maskedFirst_eq (q k : FVec Ideal S256x128 .f32) (i : Fin 256) (hq : ∀ x, ∃ r : ℝ, (q (ix2 i x) : EReal) = (r : EReal))
    (hk : ∀ j x, ∃ r : ℝ, (k (ix2 j x) : EReal) = (r : EReal)) :
    maskedFirst q k i = firstScores (fun x => q (ix2 i x)) (fun j x => k (ix2 j x)) := by
  funext j
  unfold maskedFirst firstScores
  rw [AttScalar.half_first]
  exact AttScalar.scale_out (fun x => q (ix2 i ⟨x, by omega⟩)) (fun x => k (ix2 j ⟨x, by omega⟩)) (fun x => hq _) (fun x => hk _ _)

/-- The masked last scores are the scores of the last lanes, of finite queries and keys. -/
theorem maskedLast_eq (q k : FVec Ideal S256x128 .f32) (i : Fin 256) (hq : ∀ x, ∃ r : ℝ, (q (ix2 i x) : EReal) = (r : EReal))
    (hk : ∀ j x, ∃ r : ℝ, (k (ix2 j x) : EReal) = (r : EReal)) :
    maskedLast q k i = lastScores (fun x => q (ix2 i x)) (fun j x => k (ix2 j x)) := by
  funext j
  unfold maskedLast lastScores
  rw [AttScalar.half_second]
  exact AttScalar.scale_out (fun x => q (ix2 i ⟨64 + x, by omega⟩)) (fun x => k (ix2 j ⟨64 + x, by omega⟩)) (fun x => hq _) (fun x => hk _ _)

/-- The weighted values before the norm, of finite queries and keys. -/
theorem out_eq (l : FVec Ideal S4x64 .f32) (q k v : FVec Ideal S256x128 .f32) (i : Fin 256) (d : Fin 128)
    (hq : ∀ x, ∃ r : ℝ, (q (ix2 i x) : EReal) = (r : EReal)) (hk : ∀ j x, ∃ r : ℝ, (k (ix2 j x) : EReal) = (r : EReal)) :
    k0_pay8 (F := Ideal) (k0_pay2 (F := Ideal) l) k0_pay4 (k0_pay7 (F := Ideal) q) (k0_pay5 (F := Ideal) k) (k0_pay6 (F := Ideal) v) (ix2 i d)
      = ∑ x : Fin 256, v (ix2 x d) * weight (mixing (fun a x => l (ix2 a x)))
          (firstScores (fun x => q (ix2 i x)) (fun j x => k (ix2 j x))) (lastScores (fun x => q (ix2 i x)) (fun j x => k (ix2 j x))) x := by
  rw [out_at, maskedFirst_eq q k i hq hk, maskedLast_eq q k i hq hk, lam_at]
  refine Finset.sum_congr rfl fun x _ => ?_
  have h₁ : (∑ y, ex (firstScores (fun x => q (ix2 i x)) (fun j x => k (ix2 j x))) y) ≠ 0 :=
    AttScalar.total_ne _ fun j =>
      AttScalar.score_real (fun y => q (ix2 i ⟨y, by omega⟩)) (fun y => k (ix2 j ⟨y, by omega⟩)) (fun y => hq _) (fun y => hk _ _)
  have h₂ : (∑ y, ex (lastScores (fun x => q (ix2 i x)) (fun j x => k (ix2 j x))) y) ≠ 0 :=
    AttScalar.total_ne _ fun j =>
      AttScalar.score_real (fun y => q (ix2 i ⟨64 + y, by omega⟩)) (fun y => k (ix2 j ⟨64 + y, by omega⟩)) (fun y => hq _) (fun y => hk _ _)
  rw [AttScalar.weight_eq _ _ _ _ _ h₁ h₂]
  exact mul_comm _ _

/-- One head of the kernel is the attention's row, of finite queries and keys. -/
theorem head_at (l : FVec Ideal S4x64 .f32) (g : FVec Ideal S1x128 .f32) (q k v : FVec Ideal S256x128 .f32) (i : Fin 256) (d : Fin 128)
    (hq : ∀ x, ∃ r : ℝ, (q (ix2 i x) : EReal) = (r : EReal)) (hk : ∀ j x, ∃ r : ℝ, (k (ix2 j x) : EReal) = (r : EReal)) :
    head l g q k v (ix2 i d)
      = attended (fun a x => l (ix2 a x)) (fun x => g (ix2 0 x)) (fun x => q (ix2 i x)) (fun j x => k (ix2 j x)) (fun j x => v (ix2 j x)) d := by
  unfold head
  rw [norm_at, mean_at]
  simp only [out_eq l q k v i _ hq hk]
  unfold attended AttScalar.normed
  rw [← mul_assoc]

end Cert.Proof.AttKernel

end
-- ==== Proof.AttReference.lean ====
/-
  The reference of the differential attention, taken apart into its steps (scores, softmax, mixing scalar, difference of
  the maps, weighted values, norm), and each step read at an index.
-/
module

public import proofs.«01_k».proof.Proof.Gen.ReferenceAttIdeal.Run
public import proofs.«01_k».proof.Proof.AttScalar
public import Idealize.ShloMosaic.Lib.Pipeline.ValueKit
public import Idealize.ShloMosaic.Lib.Pointwise
public import Idealize.ShloMosaic.Lib.Claim

@[expose] public section

set_option maxRecDepth 16384

noncomputable section

namespace Cert.Proof.AttReference

open Cert.ReferenceAttIdeal Cert.ReferenceAttIdeal.Gen Idealize.ShloMosaic Idealize.ShloMosaic.TcCoe Idealize.SL.Sem
open Cert.Proof.AttScalar (start eighth top ex firstScores lastScores mixing weight attended)

/-- The scaled scores of both maps of every head: queries against keys, 64 lanes at a time. -/
def scores (p : FVec Ideal S16384x12288 .f32) : FVec Ideal S32x12x2x256x256 .f32 :=
  mulf (Host.dotGeneral dot_S32x256x12x2x64_S32x256x12x2x64_S32x12x2x256x256_4_4_1_1_023_023 none (shapeCast _ (extractStridedSlice S8192x1536 ![0, 0] p slices_S16384x12288_S8192x1536_0_0) shapeCasts_S8192x1536_S32x256x12x2x64) (shapeCast _ (extractStridedSlice S8192x1536 ![0, 1536] p slices_S16384x12288_S8192x1536_0_1536) shapeCasts_S8192x1536_S32x256x12x2x64)) (broadcastInDim S32x12x2x256x256 ![] bcast_S_S32x12x2x256x256 (constant S_ .f32 0x3E000000#32))

/-- Each row's greatest score. -/
def peak (s : FVec Ideal S32x12x2x256x256 .f32) : FVec Ideal S32x12x2x256 .f32 :=
  Host.reduce FloatOps.maximumf s (constant S_ .f32 0xFF800000#32) reducesTo_S32x12x2x256x256_S32x12x2x256_d4 h_S_

/-- The exponentials of the scores over their row's value in `q`. -/
def expo (s : FVec Ideal S32x12x2x256x256 .f32) (q : FVec Ideal S32x12x2x256 .f32) : FVec Ideal S32x12x2x256x256 .f32 :=
  Host.exp (subf s (broadcastInDim S32x12x2x256x256 ![0, 1, 2, 3, 4] bcast_S32x12x2x256x1_S32x12x2x256x256_0_1_2_3_4 (broadcastInDim S32x12x2x256x1 ![0, 1, 2, 3] bcast_S32x12x2x256_S32x12x2x256x1_0_1_2_3 (maximumf (broadcastInDim S32x12x2x256 ![] bcast_S_S32x12x2x256 (constant S_ .f32 0xFF800000#32)) q))))

/-- Exponentials over their row's sum: the softmax. -/
def soft (e : FVec Ideal S32x12x2x256x256 .f32) : FVec Ideal S32x12x2x256x256 .f32 :=
  Host.divf e (broadcastInDim S32x12x2x256x256 ![0, 1, 2, 3, 4] bcast_S32x12x2x256x1_S32x12x2x256x256_0_1_2_3_4 (broadcastInDim S32x12x2x256x1 ![0, 1, 2, 3] bcast_S32x12x2x256_S32x12x2x256x1_0_1_2_3 (Host.reduceAdd e (constant S_ .f32 0x00000000#32) reducesTo_S32x12x2x256x256_S32x12x2x256_d4 h_S_)))

/-- The scalar that weighs the second map. -/
def lam (l : FVec Ideal S4x64 .f32) : FVec Ideal S_ .f32 :=
  addf (subf (Host.exp (Host.reduceAdd (mulf (shapeCast _ (extractStridedSlice S1x64 ![0, 0] l slices_S4x64_S1x64_0_0) shapeCasts_S1x64_S64) (shapeCast _ (extractStridedSlice S1x64 ![1, 0] l slices_S4x64_S1x64_1_0) shapeCasts_S1x64_S64)) (constant S_ .f32 0x00000000#32) reducesTo_S64_S_d0 h_S_)) (Host.exp (Host.reduceAdd (mulf (shapeCast _ (extractStridedSlice S1x64 ![2, 0] l slices_S4x64_S1x64_2_0) shapeCasts_S1x64_S64) (shapeCast _ (extractStridedSlice S1x64 ![3, 0] l slices_S4x64_S1x64_3_0) shapeCasts_S1x64_S64)) (constant S_ .f32 0x00000000#32) reducesTo_S64_S_d0 h_S_))) (constant S_ .f32 0x3E4CCCCD#32)

/-- The first map minus the weighted second. -/
def weights (a : FVec Ideal S_ .f32) (s : FVec Ideal S32x12x2x256x256 .f32) : FVec Ideal S32x12x256x256 .f32 :=
  subf (shapeCast _ (extractStridedSlice S32x12x1x256x256 ![0, 0, 0, 0, 0] s slices_S32x12x2x256x256_S32x12x1x256x256_0_0_0_0_0) shapeCasts_S32x12x1x256x256_S32x12x256x256) (mulf (broadcastInDim S32x12x256x256 ![] bcast_S_S32x12x256x256 a) (shapeCast _ (extractStridedSlice S32x12x1x256x256 ![0, 0, 1, 0, 0] s slices_S32x12x2x256x256_S32x12x1x256x256_0_0_1_0_0) shapeCasts_S32x12x1x256x256_S32x12x256x256))

/-- The values of a head, weighed. -/
def mixed (p : FVec Ideal S16384x12288 .f32) (w : FVec Ideal S32x12x256x256 .f32) : FVec Ideal S32x256x12x128 .f32 :=
  transpose S32x256x12x128 [0, 3, 1, 2] (Host.dotGeneral (F := Ideal) dot_S32x256x12x128_S32x12x256x256_S32x12x128x256_1_3_3_2_02_01 none (shapeCast _ (extractStridedSlice S8192x1536 ![0, 3072] p slices_S16384x12288_S8192x1536_0_3072) shapeCasts_S8192x1536_S32x256x12x128) w) transposes_S32x12x128x256_S32x256x12x128_0_3_1_2

/-- Each head's RMSNorm with its gain and the constant factor, the heads side by side. -/
def normed (g : FVec Ideal S128 .f32) (o : FVec Ideal S32x256x12x128 .f32) : FVec Ideal S8192x1536 .bf16 :=
  truncf .bf16 (shapeCast _ (mulf (mulf (mulf o (broadcastInDim S32x256x12x128 ![0, 1, 2, 3] bcast_S32x256x12x1_S32x256x12x128_0_1_2_3 (Host.rsqrt (addf (Host.divf (broadcastInDim S32x256x12x1 ![0, 1, 2] bcast_S32x256x12_S32x256x12x1_0_1_2 (Host.reduceAdd (mulf o o) (constant S_ .f32 0x00000000#32) reducesTo_S32x256x12x128_S32x256x12_d3 h_S_)) (broadcastInDim S32x256x12x1 ![] bcast_S_S32x256x12x1 (constant S_ .f32 0x43000000#32))) (broadcastInDim S32x256x12x1 ![] bcast_S_S32x256x12x1 (constant S_ .f32 0x358637BD#32)))))) (broadcastInDim S32x256x12x128 ![0, 1, 2, 3] bcast_S1x1x1x128_S32x256x12x128_0_1_2_3 (broadcastInDim S1x1x1x128 ![3] bcast_S128_S1x1x1x128_3 g))) (broadcastInDim S32x256x12x128 ![] bcast_S_S32x256x12x128 (constant S_ .f32 0x3F4CCCCD#32))) shapeCasts_S32x256x12x128_S8192x1536) bitsLt_bf16_f32

/-- The reference's result as a function of its arguments. -/
def result (p : FVec Ideal S16384x12288 .f32) (l : FVec Ideal S4x64 .f32) (g : FVec Ideal S128 .f32) : FVec Ideal S8192x1536 .bf16 :=
  normed g (mixed p (weights (lam l) (soft (expo (scores p) (peak (scores p))))))

set_option maxRecDepth 100000 in
/-- The run of the reference returns these steps, one after the other. -/
theorem run_result (m : (ℓ : Loc nD τ sig) → Buf (Elt Ideal) ℓ) (c : Dev nD) :
    Cert.ReferenceAttIdeal.Value.res_out0 (F := Ideal) m c
      = result (m ((c : Thread nD τ).loc main_arg0)) (m ((c : Thread nD τ).loc main_arg1)) (m ((c : Thread nD τ).loc main_arg2)) := by
  unfold Cert.ReferenceAttIdeal.Value.res_out0 Cert.ReferenceAttIdeal.Value.res_main_v61 result normed mixed weights lam soft expo peak scores
  with_reducible_and_instances rfl

/-- A score at an index. -/
theorem scores_at (p : FVec Ideal S16384x12288 .f32) (b : Fin 32) (h : Fin 12) (n : Fin 2) (i j : Fin 256) :
    scores p (ix5 b h n i j)
      = (∑ x : Fin 64, p (ix2 ⟨b * 256 + i, by omega⟩ ⟨h * 128 + n * 64 + x, by omega⟩)
          * p (ix2 ⟨b * 256 + j, by omega⟩ ⟨1536 + (h * 128 + n * 64 + x), by omega⟩)) * eighth := by
  pointwise [scores]

/-- A maximum over the last of five axes, at an index. -/
theorem peak_gen {n0 n1 n2 n3 n4 : ℕ} (s : FVec Ideal ⟨5, ![n0, n1, n2, n3, n4]⟩ .f32)
    (r : (⟨5, ![n0, n1, n2, n3, n4]⟩ : Shape).ReducesTo [4] ⟨4, ![n0, n1, n2, n3]⟩) (hu : 0 < S_.numel)
    (b : Fin n0) (h : Fin n1) (n : Fin n2) (i : Fin n3) :
    Host.reduce FloatOps.maximumf s (constant S_ .f32 0xFF800000#32) r hu (ix4 b h n i)
      = Finset.univ.fold max start (fun x : Fin n4 => s (ix5 b h n i x)) := by
  simp only [pointwise]

/-- A row's greatest score at an index. -/
theorem peak_at (s : FVec Ideal S32x12x2x256x256 .f32) (b : Fin 32) (h : Fin 12) (n : Fin 2) (i : Fin 256) :
    peak s (ix4 b h n i) = top (fun x => s (ix5 b h n i x)) :=
  peak_gen s reducesTo_S32x12x2x256x256_S32x12x2x256_d4 h_S_ b h n i

/-- An exponential at an index. -/
theorem expo_at (s : FVec Ideal S32x12x2x256x256 .f32) (q : FVec Ideal S32x12x2x256 .f32) (b : Fin 32) (h : Fin 12) (n : Fin 2) (i j : Fin 256) :
    expo s q (ix5 b h n i j) = Ideal.exp (s (ix5 b h n i j) - max start (q (ix4 b h n i))) := by
  pointwise [expo]

/-- An exponential at an index, over the row it belongs to. -/
theorem expo_row (s : FVec Ideal S32x12x2x256x256 .f32) (b : Fin 32) (h : Fin 12) (n : Fin 2) (i j : Fin 256) :
    expo s (peak s) (ix5 b h n i j) = ex (fun x => s (ix5 b h n i x)) j := by
  rw [expo_at, peak_at, AttScalar.max_start]

/-- A softmax entry at an index. -/
theorem soft_at (e : FVec Ideal S32x12x2x256x256 .f32) (b : Fin 32) (h : Fin 12) (n : Fin 2) (i j : Fin 256) :
    soft e (ix5 b h n i j) = Ideal.div (e (ix5 b h n i j)) (∑ x, e (ix5 b h n i x)) := by
  pointwise [soft]

/-- A difference of the two maps at an index. -/
theorem weights_at (a : FVec Ideal S_ .f32) (s : FVec Ideal S32x12x2x256x256 .f32) (b : Fin 32) (h : Fin 12) (i j : Fin 256) :
    weights a s (ix4 b h i j) = s (ix5 b h 0 i j) - a ix0 * s (ix5 b h 1 i j) := by
  pointwise [weights]

/-- A weighted sum of values at an index. -/
theorem mixed_at (p : FVec Ideal S16384x12288 .f32) (w : FVec Ideal S32x12x256x256 .f32) (b : Fin 32) (h : Fin 12) (i : Fin 256) (d : Fin 128) :
    mixed p w (ix4 b i h d)
      = ∑ x : Fin 256, p (ix2 ⟨b * 256 + x, by omega⟩ ⟨3072 + (h * 128 + d), by omega⟩) * w (ix4 b h i x) := by
  pointwise [mixed]

/-- A normalised entry at an index. -/
theorem normed_at (g : FVec Ideal S128 .f32) (o : FVec Ideal S32x256x12x128 .f32) (j : S8192x1536.Idx)
    (b : Fin 32) (i : Fin 256) (h : Fin 12) (d : Fin 128) (hb : (j 0).val = b * 256 + i) (hh : (j 1).val = h * 128 + d) :
    normed g o j = AttScalar.normed (fun x => o (ix4 b i h x)) (fun x => g (ix1 x)) d := by
  have h0 : (⟨(j 0).val / 256, by omega⟩ : Fin 32) = b := Fin.ext (by simp only []; omega)
  have h1 : (⟨(j 0).val % 256, by omega⟩ : Fin 256) = i := Fin.ext (by simp only []; omega)
  have h2 : (⟨(j 1).val / 128, by omega⟩ : Fin 12) = h := Fin.ext (by simp only []; omega)
  have h3 : (⟨(j 1).val % 128, by omega⟩ : Fin 128) = d := Fin.ext (by simp only []; omega)
  have key : normed g o j = AttScalar.normed (fun x => o (ix4 ⟨(j 0).val / 256, by omega⟩ ⟨(j 0).val % 256, by omega⟩ ⟨(j 1).val / 128, by omega⟩ x))
      (fun x => g (ix1 x)) ⟨(j 1).val % 128, by omega⟩ := by
    unfold AttScalar.normed
    pointwise [normed]
  rw [key, h0, h1, h2, h3]

/-- The mixing scalar. -/
theorem lam_at (l : FVec Ideal S4x64 .f32) (j : S_.Idx) : lam l j = mixing (fun a x => l (ix2 a x)) := by
  unfold mixing
  pointwise [lam]

/-- The first map's scores of a query. -/
theorem scores_first (p : FVec Ideal S16384x12288 .f32) (b : Fin 32) (h : Fin 12) (i : Fin 256) :
    (fun x => scores p (ix5 b h 0 i x))
      = firstScores (fun x => p (ix2 ⟨b * 256 + i, by omega⟩ ⟨h * 128 + x, by omega⟩))
          (fun j x => p (ix2 ⟨b * 256 + j, by omega⟩ ⟨1536 + (h * 128 + x), by omega⟩)) := by
  funext j
  rw [scores_at]
  unfold firstScores
  refine congrArg (fun a : EReal => a * eighth) (Finset.sum_congr rfl fun x _ => ?_)
  refine congrArg₂ (fun a b : EReal => a * b) (congrArg p (congrArg (ix2 _) (Fin.ext ?_))) (congrArg p (congrArg (ix2 _) (Fin.ext ?_)))
  · show (h : ℕ) * 128 + 0 * 64 + x = h * 128 + x
    omega
  · show 1536 + ((h : ℕ) * 128 + 0 * 64 + x) = 1536 + (h * 128 + x)
    omega

/-- The second map's scores of a query. -/
theorem scores_last (p : FVec Ideal S16384x12288 .f32) (b : Fin 32) (h : Fin 12) (i : Fin 256) :
    (fun x => scores p (ix5 b h 1 i x))
      = lastScores (fun x => p (ix2 ⟨b * 256 + i, by omega⟩ ⟨h * 128 + x, by omega⟩))
          (fun j x => p (ix2 ⟨b * 256 + j, by omega⟩ ⟨1536 + (h * 128 + x), by omega⟩)) := by
  funext j
  rw [scores_at]
  unfold lastScores
  refine congrArg (fun a : EReal => a * eighth) (Finset.sum_congr rfl fun x _ => ?_)
  refine congrArg₂ (fun a b : EReal => a * b) (congrArg p (congrArg (ix2 _) (Fin.ext ?_))) (congrArg p (congrArg (ix2 _) (Fin.ext ?_)))
  · show (h : ℕ) * 128 + 1 * 64 + x = h * 128 + (64 + x)
    omega
  · show 1536 + ((h : ℕ) * 128 + 1 * 64 + x) = 1536 + (h * 128 + (64 + x))
    omega

/-- The reference's result at the lane `d` of head `h` for the query `i` of sequence `b`. -/
theorem result_at (p : FVec Ideal S16384x12288 .f32) (l : FVec Ideal S4x64 .f32) (g : FVec Ideal S128 .f32) (j : S8192x1536.Idx)
    (b : Fin 32) (i : Fin 256) (h : Fin 12) (d : Fin 128) (hb : (j 0).val = b * 256 + i) (hh : (j 1).val = h * 128 + d) :
    result p l g j
      = attended (fun a x => l (ix2 a x)) (fun x => g (ix1 x))
          (fun x => p (ix2 ⟨b * 256 + i, by omega⟩ ⟨h * 128 + x, by omega⟩))
          (fun j x => p (ix2 ⟨b * 256 + j, by omega⟩ ⟨1536 + (h * 128 + x), by omega⟩))
          (fun j x => p (ix2 ⟨b * 256 + j, by omega⟩ ⟨3072 + (h * 128 + x), by omega⟩)) d := by
  unfold result attended
  rw [normed_at g _ j b i h d hb hh]
  refine congrArg (fun o => AttScalar.normed o _ d) (funext fun d => ?_)
  rw [mixed_at]
  refine Finset.sum_congr rfl fun x _ => congrArg (fun a : EReal => _ * a) ?_
  rw [weights_at, soft_at, soft_at, lam_at]
  simp only [expo_row]
  rw [scores_first, scores_last]
  rfl

end Cert.Proof.AttReference

end
-- ==== Proof.AttValue.lean ====
/-
  The differential attention: the array the pipelined kernel leaves is the reference's, where queries and keys are finite.
-/
module

public import proofs.«01_k».proof.Proof.AttKernel
public import proofs.«01_k».proof.Proof.AttReference
public import proofs.«01_k».proof.Proof.Gen.Pre_queries_keys_finite

@[expose] public section

set_option maxRecDepth 16384

noncomputable section

namespace Cert.Proof.AttValue

open Cert.KernelAttIdeal Cert.KernelAttIdeal.Gen Idealize.ShloMosaic Idealize.ShloMosaic.TcCoe Idealize.SL.Sem
open Idealize.ShloMosaic.Pipeline (Dat)

variable (m : (ℓ : Loc nD τ sig) → Buf (Elt Ideal) ℓ)

/-- The blocks of a grid point: a sequence's rows, and a group of four heads of the queries, the keys, the values and
    the result. -/
theorem idx : ∀ t : Fin cfg0.N, win0_0.index t = ![t.val / 3, t.val % 3] ∧ win0_1.index t = ![t.val / 3, 3 + t.val % 3]
    ∧ win0_2.index t = ![t.val / 3, 6 + t.val % 3] ∧ win0_3.index t = ![0, 0] ∧ win0_4.index t = ![0, 0]
    ∧ win0_5.index t = ![t.val / 3, t.val % 3] :=
  (by decide +kernel : ∀ t : Fin grid0.N, _)

/-- The precondition at an entry: a query or key of the context rows is a real number. -/
theorem pre_at (p : FVec Ideal S16384x12288 .f32) (l : FVec Ideal S4x64 .f32) (g : FVec Ideal S128 .f32)
    (h : Cert.Pre_queries_keys_finite.fn (F := Ideal) p l g = fun _ => 1#1) (i : Fin 16384) (j : Fin 12288)
    (hi : i.val < 8192) (hj : j.val < 3072) : ∃ r : ℝ, (p (ix2 i j) : EReal) = (r : EReal) := by
  have h1 := congrFun h (ix2 ⟨i, hi⟩ ⟨j, hj⟩)
  revert h1
  pointwise [Cert.Pre_queries_keys_finite.fn]
  exact AttScalar.real_of_below (p (ix2 i j))

/-- A slice of the queries' block is a head's queries. -/
theorem read_q (c : Dev nD) (t : Fin cfg0.N) (o : ℕ) (e : Fin 4) (ho : o = e.val * 128) (inb) (b : Fin 32) (h : Fin 12)
    (hb : b.val = t.val / 3) (hh : h.val = t.val % 3 * 4 + e.val) (i : Fin 256) (x : Fin 128) :
    (View.ld (iblk m c 0 t) (Rect.unit ![0, o] ![256, 128] inb) : FVec Ideal S256x128 .f32) (ix2 i x)
      = m ((c : Thread nD τ).loc main_arg0) (ix2 ⟨b * 256 + i, by omega⟩ ⟨h * 128 + x, by omega⟩) := by
  subst ho
  blk_point [iblk, V, idx t]

/-- A slice of the keys' block is a head's keys. -/
theorem read_k (c : Dev nD) (t : Fin cfg0.N) (o : ℕ) (e : Fin 4) (ho : o = e.val * 128) (inb) (b : Fin 32) (h : Fin 12)
    (hb : b.val = t.val / 3) (hh : h.val = t.val % 3 * 4 + e.val) (i : Fin 256) (x : Fin 128) :
    (View.ld (iblk m c 1 t) (Rect.unit ![0, o] ![256, 128] inb) : FVec Ideal S256x128 .f32) (ix2 i x)
      = m ((c : Thread nD τ).loc main_arg0) (ix2 ⟨b * 256 + i, by omega⟩ ⟨1536 + (h * 128 + x), by omega⟩) := by
  subst ho
  blk_point [iblk, V, idx t]

/-- A slice of the values' block is a head's values. -/
theorem read_v (c : Dev nD) (t : Fin cfg0.N) (o : ℕ) (e : Fin 4) (ho : o = e.val * 128) (inb) (b : Fin 32) (h : Fin 12)
    (hb : b.val = t.val / 3) (hh : h.val = t.val % 3 * 4 + e.val) (i : Fin 256) (x : Fin 128) :
    (View.ld (iblk m c 2 t) (Rect.unit ![0, o] ![256, 128] inb) : FVec Ideal S256x128 .f32) (ix2 i x)
      = m ((c : Thread nD τ).loc main_arg0) (ix2 ⟨b * 256 + i, by omega⟩ ⟨3072 + (h * 128 + x), by omega⟩) := by
  subst ho
  blk_point [iblk, V, idx t]

/-- The gain, as a row. -/
theorem read_g (c : Dev nD) (t : Fin cfg0.N) (x : Fin 128) :
    (iblk m c 4 t : FVec Ideal S1x128 .f32) (ix2 0 x) = m ((c : Thread nD τ).loc main_arg2) (ix1 x) := by
  blk_point [iblk, V, idx t]

/-- The mixing vectors. -/
theorem read_l (c : Dev nD) (t : Fin cfg0.N) (a : Fin 4) (x : Fin 64) :
    (iblk m c 3 t : FVec Ideal S4x64 .f32) (ix2 a x) = m ((c : Thread nD τ).loc main_arg1) (ix2 a x) := by
  blk_point [iblk, V, idx t]

/-- One head of a grid point, at an entry, is the reference's entry at the head's place. -/
theorem core (c : Dev nD) (t : Fin cfg0.N) (o : ℕ) (e : Fin 4) (ho : o = e.val * 128) (inb) (x : S256x128.Idx) (j : S8192x1536.Idx)
    (hpre : Cert.Pre_queries_keys_finite.fn (F := Ideal) (m ((c : Thread nD τ).loc main_arg0)) (m ((c : Thread nD τ).loc main_arg1))
      (m ((c : Thread nD τ).loc main_arg2)) = fun _ => 1#1)
    (hj0 : (j 0 : ℕ) = t.val / 3 * 256 + (x 0 : ℕ)) (hj1 : (j 1 : ℕ) = t.val % 3 * 512 + (o + (x 1 : ℕ))) :
    AttKernel.head (iblk m c 3 t) (iblk m c 4 t) (View.ld (iblk m c 0 t) (Rect.unit ![0, o] ![256, 128] inb))
        (View.ld (iblk m c 1 t) (Rect.unit ![0, o] ![256, 128] inb)) (View.ld (iblk m c 2 t) (Rect.unit ![0, o] ![256, 128] inb)) x
      = AttReference.result (m ((c : Thread nD τ).loc main_arg0)) (m ((c : Thread nD τ).loc main_arg1))
          (m ((c : Thread nD τ).loc main_arg2)) j := by
  have ht : t.val < 96 := lt_of_lt_of_eq t.isLt N_0
  have hx0 : (x 0 : ℕ) < 256 := (x 0).isLt
  have hx1 : (x 1 : ℕ) < 128 := (x 1).isLt
  obtain ⟨b, hb⟩ : ∃ b : Fin 32, b.val = t.val / 3 := ⟨⟨t.val / 3, by omega⟩, rfl⟩
  obtain ⟨h, hh⟩ : ∃ h : Fin 12, h.val = t.val % 3 * 4 + e.val := ⟨⟨t.val % 3 * 4 + e.val, by omega⟩, rfl⟩
  obtain ⟨i, hi⟩ : ∃ i : Fin 256, i.val = (x 0 : ℕ) := ⟨⟨x 0, hx0⟩, rfl⟩
  obtain ⟨d, hd⟩ : ∃ d : Fin 128, d.val = (x 1 : ℕ) := ⟨⟨x 1, hx1⟩, rfl⟩
  have hx : x = ix2 i d := by
    funext a
    refine Fin.ext ?_
    match a with
    | ⟨0, _⟩ => exact hi.symm
    | ⟨1, _⟩ => exact hd.symm
  rw [AttReference.result_at _ _ _ j b i h d (by omega) (by omega), hx]
  have hQ := read_q m c t o e ho inb b h hb hh
  have hK := read_k m c t o e ho inb b h hb hh
  have hV := read_v m c t o e ho inb b h hb hh
  refine (AttKernel.head_at _ _ _ _ _ i d (fun x => ?_) (fun j x => ?_)).trans ?_
  · rw [hQ i x]
    exact pre_at _ _ _ hpre _ _ (by simp only []; omega) (by simp only []; omega)
  · rw [hK j x]
    exact pre_at _ _ _ hpre _ _ (by simp only []; omega) (by simp only []; omega)
  · simp only [hQ, hK, hV, read_g, read_l]

/-- The result array after the run is the reference's result, where the queries and keys are finite. -/
theorem final (c : Dev nD)
    (hpre : Cert.Pre_queries_keys_finite.fn (F := Ideal) (m ((c : Thread nD τ).loc main_arg0)) (m ((c : Thread nD τ).loc main_arg1))
      (m ((c : Thread nD τ).loc main_arg2)) = fun _ => 1#1) :
    (dats m 0 c).arrAt 5 (cfgs 0).N
      = AttReference.result (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]; unfold outsAt0; frame_out
  canon_tiles x h
  case piece0 =>
    rw [AttKernel.head_fourth]
    refine core m c t 384 3 rfl _ x _ hpre ?_ ?_
    all_goals (blk_simp [idx t] <;> try omega)
  case piece1 =>
    rw [AttKernel.head_third]
    refine core m c t 256 2 rfl _ x _ hpre ?_ ?_
    all_goals (blk_simp [idx t] <;> try omega)
  case piece2 =>
    rw [AttKernel.head_second]
    refine core m c t 128 1 rfl _ x _ hpre ?_ ?_
    all_goals (blk_simp [idx t] <;> try omega)
  case piece3 =>
    refine core m c t 0 0 rfl _ x _ hpre ?_ ?_
    all_goals (blk_simp [idx t] <;> try omega)

end Cert.Proof.AttValue

end
-- ==== Proof.UpValue.lean ====
/-
  The FFN's up projection: the array the pipelined kernel leaves is the gated, convolved product of the reference.
-/
module

public import proofs.«01_k».proof.Proof.Gen.KernelUpIdeal.Value
public import proofs.«01_k».proof.Proof.Gen.ReferenceUpIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.UpValue

open Cert.KernelUpIdeal Cert.KernelUpIdeal.Gen Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ReferenceUpIdeal.nD Cert.ReferenceUpIdeal.τ Cert.ReferenceUpIdeal.sig) → Buf (Elt Ideal) ℓ)

/-- The blocks of a grid point: a row band of the tokens and of the result; a column band of the gate and its counterpart
    11008 columns further for the values, in the matrix, the convolution's weights and the biases. -/
theorem idx : ∀ t : Fin cfg0.N, win0_0.index t = ![t.val / 43, 0] ∧ win0_1.index t = ![0, t.val % 43]
    ∧ win0_2.index t = ![0, t.val % 43 + 43] ∧ win0_3.index t = ![0, t.val % 43] ∧ win0_4.index t = ![0, t.val % 43 + 43]
    ∧ win0_5.index t = ![0, t.val % 43] ∧ win0_6.index t = ![0, t.val % 43 + 43]
    ∧ win0_7.index t = ![t.val / 43, t.val % 43] :=
  (by decide +kernel : ∀ t : Fin grid0.N, _)

/-- The kernel's word for the last row of a sequence: 255 in the eight bands of context tokens, 1023 in the others. -/
theorem length_word : ∀ t : Fin cfg0.N, Scalar.subi (Scalar.select (Scalar.cmpi CmpIPredicate.slt
      (Scalar.muli (BitVec.ofNat 32 (grid0.coords t 0).val) 1024#32) 8192#32) 256#32 1024#32) 1#32
    = if t.val / 43 < 8 then 255#32 else 1023#32 :=
  (by decide +kernel : ∀ t : Fin grid0.N, _)

/-- The kernel's tests of a row's index in its band, as words: whether it is the first or the last of its sequence, for
    sequences of 256 and of 1024 rows. -/
theorem first_word : ∀ n : Fin 1024,
    IntOp.cmpi CmpIPredicate.eq (IntOp.andi (BitVec.ofNat 32 n.val) 255#32) 0#32 = (if n.val % 256 = 0 then 1#1 else 0#1)
    ∧ IntOp.cmpi CmpIPredicate.eq (IntOp.andi (BitVec.ofNat 32 n.val) 1023#32) 0#32 = (if n.val = 0 then 1#1 else 0#1)
    ∧ IntOp.cmpi CmpIPredicate.eq (IntOp.andi (BitVec.ofNat 32 n.val) 255#32) 255#32 = (if n.val % 256 = 255 then 1#1 else 0#1)
    ∧ IntOp.cmpi CmpIPredicate.eq (IntOp.andi (BitVec.ofNat 32 n.val) 1023#32) 1023#32 = (if n.val = 1023 then 1#1 else 0#1) := by
  decide +kernel

/-- The mask of the first rows: one at the rows of the band where a sequence begins. -/
theorem first (t : Fin cfg0.N) (y : S1024x256.Idx) :
    k0_pay3 (grid0.coords t) y
      = if (y 0 : ℕ) % (if t.val / 43 < 8 then 256 else 1024) = 0 then 1#1 else 0#1 := by
  have hy : (y 0 : ℕ) < 1024 := (y 0).isLt
  pointwise [k0_pay3, k0_pay2]
  rw [length_word t]
  split
  · exact (first_word ⟨y 0, hy⟩).1
  · rw [Nat.mod_eq_of_lt hy]; exact (first_word ⟨y 0, hy⟩).2.1

/-- The mask of the last rows: one at the rows of the band where a sequence ends. -/
theorem last (t : Fin cfg0.N) (y : S1024x256.Idx) :
    k0_pay4 (grid0.coords t) y
      = if (y 0 : ℕ) % (if t.val / 43 < 8 then 256 else 1024) = (if t.val / 43 < 8 then 255 else 1023) then 1#1 else 0#1 := by
  have hy : (y 0 : ℕ) < 1024 := (y 0).isLt
  pointwise [k0_pay4, k0_pay2]
  rw [length_word t]
  split
  · exact (first_word ⟨y 0, hy⟩).2.2.1
  · rw [Nat.mod_eq_of_lt hy]; exact (first_word ⟨y 0, hy⟩).2.2.2

/-- The integer zero is the number zero. -/
theorem sitofp_zero : (FloatOps.sitofp FTy.f32 0#32 : Ideal .f32) = 0 := by
  show ((_ : ℝ) : EReal) = 0
  simp

/-- An entry of the product of `A` and `W`: row `r`, column `n`. -/
def col (A : FVec Ideal Cert.ReferenceUpIdeal.S16384x4096 .bf16) (W : FVec Ideal Cert.ReferenceUpIdeal.S4096x22016 .f32)
    (r : Fin 16384) (n : Fin 22016) : EReal := ∑ x : Fin 4096, A (ix2 r x) * W (ix2 x n)

/-- An entry of the block of tokens is the entry of the tokens in the block's row band. -/
theorem left (c : Dev nD) (t : Fin cfg0.N) (r : Fin 1024) (k : Fin 4096) (r' : Fin 16384)
    (hr : r'.val = t.val / 43 * 1024 + r.val) :
    iblk m c 0 t (ix2 r k) = m ((c : Thread nD τ).loc main_arg0) (ix2 r' k) := by
  blk_point [iblk, V, idx t]

/-- An entry of the gate's block of the matrix is the entry in the tile's columns. -/
theorem matrix_gate (c : Dev nD) (t : Fin cfg0.N) (k : Fin 4096) (n : Fin 256) (n' : Fin 22016)
    (hn : n'.val = t.val % 43 * 256 + n.val) :
    iblk m c 1 t (ix2 k n) = m ((c : Thread nD τ).loc main_arg1) (ix2 k n') := by
  blk_point [iblk, V, idx t]

/-- The product of the two blocks, for the gate, is the product's entry at the tile's place. -/
theorem dot_gate (c : Dev nD) (t : Fin cfg0.N) (r : Fin 1024) (n : Fin 256) (r' : Fin 16384) (n' : Fin 22016)
    (hr : r'.val = t.val / 43 * 1024 + r.val) (hn : n'.val = t.val % 43 * 256 + n.val) :
    ∑ k : Fin 4096, (show EReal from iblk m c 0 t (ix2 r k)) * (show EReal from iblk m c 1 t (ix2 k n))
      = col (m ((c : Thread nD τ).loc main_arg0)) (m ((c : Thread nD τ).loc main_arg1)) r' n' := by
  exact Finset.sum_congr rfl fun k _ => congrArg₂ (fun a b : EReal => a * b) (left m c t r k r' hr) (matrix_gate m c t k n n' hn)

/-- An entry of the values' block of the matrix is the entry 11008 columns after the tile's. -/
theorem matrix_value (c : Dev nD) (t : Fin cfg0.N) (k : Fin 4096) (n : Fin 256) (n' : Fin 22016)
    (hn : n'.val = 11008 + t.val % 43 * 256 + n.val) :
    iblk m c 2 t (ix2 k n) = m ((c : Thread nD τ).loc main_arg1) (ix2 k n') := by
  blk_point [iblk, V, idx t]

/-- The product of the two blocks, for the values, is the product's entry 11008 columns after the tile's place. -/
theorem dot_value (c : Dev nD) (t : Fin cfg0.N) (r : Fin 1024) (n : Fin 256) (r' : Fin 16384) (n' : Fin 22016)
    (hr : r'.val = t.val / 43 * 1024 + r.val) (hn : n'.val = 11008 + t.val % 43 * 256 + n.val) :
    ∑ k : Fin 4096, (show EReal from iblk m c 0 t (ix2 r k)) * (show EReal from iblk m c 2 t (ix2 k n))
      = col (m ((c : Thread nD τ).loc main_arg0)) (m ((c : Thread nD τ).loc main_arg1)) r' n' := by
  exact Finset.sum_congr rfl fun k _ => congrArg₂ (fun a b : EReal => a * b) (left m c t r k r' hr) (matrix_value m c t k n n' hn)

/-- The gate's convolution weights at the tile's columns. -/
theorem weight_gate (c : Dev nD) (t : Fin cfg0.N) (k : Fin 3) (n : Fin 256) (n' : Fin 22016)
    (hn : n'.val = t.val % 43 * 256 + n.val) :
    iblk m c 3 t (ix2 k n) = m ((c : Thread nD τ).loc main_arg2) (ix2 k n') := by
  blk_point [iblk, V, idx t]

/-- The values' convolution weights at the tile's columns. -/
theorem weight_value (c : Dev nD) (t : Fin cfg0.N) (k : Fin 3) (n : Fin 256) (n' : Fin 22016)
    (hn : n'.val = 11008 + t.val % 43 * 256 + n.val) :
    iblk m c 4 t (ix2 k n) = m ((c : Thread nD τ).loc main_arg2) (ix2 k n') := by
  blk_point [iblk, V, idx t]

/-- The gate's biases at the tile's columns. -/
theorem bias_gate (c : Dev nD) (t : Fin cfg0.N) (n : Fin 256) (n' : Fin 22016)
    (hn : n'.val = t.val % 43 * 256 + n.val) :
    iblk m c 5 t (ix2 0 n) = m ((c : Thread nD τ).loc main_arg3) (ix1 n') := by
  blk_point [iblk, V, idx t]

/-- The values' biases at the tile's columns. -/
theorem bias_value (c : Dev nD) (t : Fin cfg0.N) (n : Fin 256) (n' : Fin 22016)
    (hn : n'.val = 11008 + t.val % 43 * 256 + n.val) :
    iblk m c 6 t (ix2 0 n) = m ((c : Thread nD τ).loc main_arg3) (ix1 n') := by
  blk_point [iblk, V, idx t]

/-- An entry of the convolved product within sequences of length `L`: the row itself and its two neighbours, each times its
    weight, the neighbours outside the row's sequence counting as zero, plus the bias. -/
def conv (A : FVec Ideal Cert.ReferenceUpIdeal.S16384x4096 .bf16) (W : FVec Ideal Cert.ReferenceUpIdeal.S4096x22016 .f32)
    (C : FVec Ideal Cert.ReferenceUpIdeal.S3x22016 .f32) (B : FVec Ideal Cert.ReferenceUpIdeal.S22016 .f32)
    (L : ℕ) (r : Fin 16384) (n : Fin 22016) : EReal :=
  (if r.val % L = 0 then 0 else col A W ⟨r.val - 1, by omega⟩ n * C (ix2 0 n)) + B (ix1 n) + col A W r n * C (ix2 1 n)
    + (if r.val % L = L - 1 then 0 else col A W ⟨(r.val + 1) % 16384, by omega⟩ n * C (ix2 2 n))

/-- The gated value: the first number times its logistic function, times the second. -/
def gate (a b : EReal) : EReal := a * Ideal.div 1 (1 + Ideal.exp (-a)) * b

/-- The gated value written out is `gate`, at equal numbers. -/
theorem gate_congr {a a' b b' : EReal} (ha : a = a') (hb : b = b') :
    a * Ideal.div 1 (1 + Ideal.exp (-a)) * b = gate a' b' := by rw [ha, hb, gate]

/-- Sums of four equal terms are equal. -/
theorem conv_congr {a b c d a' b' c' d' : EReal} (ha : a = a') (hb : b = b') (hc : c = c') (hd : d = d') :
    a + b + c + d = a' + b' + c' + d' := by rw [ha, hb, hc, hd]

/-- A neighbour's term that is padded with zero outside of the sequence: the term is zero there, and elsewhere the product. -/
theorem tap_congr {p q : Prop} [Decidable p] [Decidable q] {x : p → EReal} {y w : EReal} (hpq : p ↔ ¬ q)
    (hx : ∀ h, x h = y) : (if h : p then x h else 0) * w = if q then 0 else y * w := by
  by_cases h : p
  · rw [dif_pos h, if_neg (hpq.mp h), hx h]
  · rw [dif_neg h, if_pos (not_not.mp fun hq => h (hpq.mpr hq)), zero_mul]

/-- The term of the row itself is never padded. -/
theorem inner_congr {p : Prop} [Decidable p] {x : p → EReal} {y w : EReal} (hp : p)
    (hx : ∀ h, x h = y) : (if h : p then x h else 0) * w = y * w := by
  rw [dif_pos hp, hx hp]

/-- The product written out at a row given by another name of the same index. -/
theorem col_eq (A : FVec Ideal Cert.ReferenceUpIdeal.S16384x4096 .bf16) (W : FVec Ideal Cert.ReferenceUpIdeal.S4096x22016 .f32)
    (r r' : Fin 16384) (n : Fin 22016) (h : r.val = r'.val) : ∑ x : Fin 4096, (A (ix2 r x) : EReal) * (W (ix2 x n) : EReal) = col A W r' n := by
  rw [col, Fin.ext h]

set_option maxRecDepth 100000 in
set_option maxHeartbeats 2000000 in
/-- One entry of the reference's result: the gated value of the two convolved products, at sequences of 256 rows among the
    context tokens and of 1024 rows among the latent tokens. -/
theorem ref_at (c : Dev nD) (j : Cert.ReferenceUpIdeal.S16384x11008.Idx) (L : ℕ) (r : Fin 16384) (n n2 : Fin 22016)
    (hL : L = if (j 0 : ℕ) < 8192 then 256 else 1024) (hr : r.val = (j 0 : ℕ)) (hn : n.val = (j 1 : ℕ))
    (hn2 : n2.val = 11008 + (j 1 : ℕ)) :
    Cert.ReferenceUpIdeal.Value.res_out0 m' c j
      = gate (conv (m' (c.tc.loc Cert.ReferenceUpIdeal.main_arg0)) (m' (c.tc.loc Cert.ReferenceUpIdeal.main_arg1)) (m' (c.tc.loc Cert.ReferenceUpIdeal.main_arg2)) (m' (c.tc.loc Cert.ReferenceUpIdeal.main_arg3)) L r n)
          (conv (m' (c.tc.loc Cert.ReferenceUpIdeal.main_arg0)) (m' (c.tc.loc Cert.ReferenceUpIdeal.main_arg1)) (m' (c.tc.loc Cert.ReferenceUpIdeal.main_arg2)) (m' (c.tc.loc Cert.ReferenceUpIdeal.main_arg3)) L r n2) := by
  have hj0 : (j 0 : ℕ) < 16384 := (j 0).isLt
  have hj1 : (j 1 : ℕ) < 11008 := (j 1).isLt
  have b1 : (j 1 : ℕ) < 22016 := by omega
  have b2 : 11008 + (j 1 : ℕ) < 22016 := by omega
  obtain rfl : r = ⟨j 0, hj0⟩ := Fin.ext hr
  obtain rfl : n = ⟨j 1, b1⟩ := Fin.ext hn
  obtain rfl : n2 = ⟨11008 + (j 1 : ℕ), b2⟩ := Fin.ext hn2
  subst hL
  pointwise [Cert.ReferenceUpIdeal.Value.res_out0, Cert.ReferenceUpIdeal.Value.res_main_v65]
  simp only [sitofp_zero]
  by_cases hi : (j 0 : ℕ) < 8192
  · rw [dif_pos hi]
    simp only [if_pos hi]
    refine gate_congr (conv_congr (tap_congr ?_ fun h => ?_) rfl (inner_congr ?_ fun h => ?_) (tap_congr ?_ fun h => ?_))
      (conv_congr (tap_congr ?_ fun h => ?_) rfl (inner_congr ?_ fun h => ?_) (tap_congr ?_ fun h => ?_))
    all_goals first | refine col_eq _ _ _ _ _ ?_ | skip
    all_goals try dsimp only
    all_goals omega
  · rw [dif_neg hi]
    simp only [if_neg hi]
    refine gate_congr (conv_congr (tap_congr ?_ fun h => ?_) rfl (inner_congr ?_ fun h => ?_) (tap_congr ?_ fun h => ?_))
      (conv_congr (tap_congr ?_ fun h => ?_) rfl (inner_congr ?_ fun h => ?_) (tap_congr ?_ fun h => ?_))
    all_goals first | refine col_eq _ _ _ _ _ ?_ | skip
    all_goals try dsimp only
    all_goals omega

/-- A neighbour's term that the kernel masks to zero at the edge of the sequence. -/
theorem edge_congr {p q : Prop} [Decidable p] [Decidable q] {x y w v : EReal} (hpq : p ↔ q) (hx : ¬ q → x = y) (hw : w = v) :
    Scalar.select (if p then 1#1 else 0#1) 0 (x * w) = if q then 0 else y * v := by
  by_cases h : q
  · simp [hpq.mpr h, h, Scalar.select]
  · simp [mt hpq.mp h, h, Scalar.select, hx h, hw]

set_option maxHeartbeats 1000000 in
/-- One entry of the kernel's tile: the gated value of the two convolved products, with the sequence length of the tile's rows. -/
theorem ker_at (c : Dev nD) (t : Fin cfg0.N) (y : S1024x256.Idx) (r : Fin 16384) (n n2 : Fin 22016)
    (hr : r.val = t.val / 43 * 1024 + (y 0 : ℕ)) (hn : n.val = t.val % 43 * 256 + (y 1 : ℕ))
    (hn2 : n2.val = 11008 + t.val % 43 * 256 + (y 1 : ℕ)) :
    k0_pay1 (F := Ideal) (iblk m c 0 t) (k0_pay3 (grid0.coords t)) (k0_pay4 (grid0.coords t))
        (k0_pay6 (grid0.coords t) (iblk m c 0 t) (iblk m c 1 t))
        (k0_pay7 (grid0.coords t) (iblk m c 0 t) (iblk m c 1 t) (View.ld (iblk m c 3 t) r0_2) (iblk m c 5 t)
          (View.ld (iblk m c 3 t) r0_4))
        (View.ld (iblk m c 3 t) r0_5) (iblk m c 2 t) (View.ld (iblk m c 4 t) r0_2) (iblk m c 6 t)
        (View.ld (iblk m c 4 t) r0_4) (View.ld (iblk m c 4 t) r0_5) y
      = gate (conv (m ((c : Thread nD τ).loc main_arg0)) (m ((c : Thread nD τ).loc main_arg1))
            (m ((c : Thread nD τ).loc main_arg2)) (m ((c : Thread nD τ).loc main_arg3)) (if t.val / 43 < 8 then 256 else 1024) r n)
          (conv (m ((c : Thread nD τ).loc main_arg0)) (m ((c : Thread nD τ).loc main_arg1))
            (m ((c : Thread nD τ).loc main_arg2)) (m ((c : Thread nD τ).loc main_arg3)) (if t.val / 43 < 8 then 256 else 1024) r n2) := by
  have hy : (y 0 : ℕ) < 1024 := (y 0).isLt
  have hy1 : (y 1 : ℕ) < 256 := (y 1).isLt
  have ht : t.val < 688 := lt_of_lt_of_eq t.isLt N_0
  pointwise [k0_pay1, k0_pay5, k0_pay6, k0_pay7]
  simp only [first, last, Ideal.logistic]
  by_cases hi : t.val / 43 < 8
  all_goals
    simp only [hi, if_true, if_false]
    refine gate_congr (conv_congr
      (edge_congr ?_ (fun h => dot_gate m c t _ _ _ _ ?_ ?_) (weight_gate m c t 0 _ _ ?_)) (bias_gate m c t _ _ ?_)
      (congrArg₂ _ (dot_gate m c t _ _ _ _ ?_ ?_) (weight_gate m c t 1 _ _ ?_))
      (edge_congr ?_ (fun h => dot_gate m c t _ _ _ _ ?_ ?_) (weight_gate m c t 2 _ _ ?_))) (conv_congr
      (edge_congr ?_ (fun h => dot_value m c t _ _ _ _ ?_ ?_) (weight_value m c t 0 _ _ ?_)) (bias_value m c t _ _ ?_)
      (congrArg₂ _ (dot_value m c t _ _ _ _ ?_ ?_) (weight_value m c t 1 _ _ ?_))
      (edge_congr ?_ (fun h => dot_value m c t _ _ _ _ ?_ ?_) (weight_value m c t 2 _ _ ?_)))
    all_goals try dsimp only at *
    all_goals omega

set_option maxRecDepth 100000 in
/-- The result array after the run is the reference's result, on equal arguments. -/
theorem final (c : Dev nD)
    (h0 : m' (c.tc.loc Cert.ReferenceUpIdeal.main_arg0) = m ((c : Thread nD τ).loc main_arg0))
    (h1 : m' (c.tc.loc Cert.ReferenceUpIdeal.main_arg1) = m ((c : Thread nD τ).loc main_arg1))
    (h2 : m' (c.tc.loc Cert.ReferenceUpIdeal.main_arg2) = m ((c : Thread nD τ).loc main_arg2))
    (h3 : m' (c.tc.loc Cert.ReferenceUpIdeal.main_arg3) = m ((c : Thread nD τ).loc main_arg3)) :
    (dats m 0 c).arrAt 7 (cfgs 0).N = Cert.ReferenceUpIdeal.Value.res_out0 m' c := by
  refine (dats m 0 c).arrAt_eq_of_covers 7 _ (by decide +kernel) fun t _ y => ?_
  have ht : t.val < 688 := lt_of_lt_of_eq t.isLt N_0
  blk_simp
  rw [after0_7]; frame_out
  have hy : (y 0 : ℕ) < 1024 := (y 0).isLt
  have hy1 : (y 1 : ℕ) < 256 := (y 1).isLt
  refine Eq.trans (ker_at m c t y ⟨t.val / 43 * 1024 + (y 0 : ℕ), by omega⟩ ⟨t.val % 43 * 256 + (y 1 : ℕ), by omega⟩
    ⟨11008 + t.val % 43 * 256 + (y 1 : ℕ), by omega⟩ rfl rfl rfl) ?_
  rw [← h0, ← h1, ← h2, ← h3]
  refine (ref_at m' c _ _ _ _ _ ?_ ?_ ?_ ?_).symm
  · split <;> split <;> first | rfl | (exfalso; blk_simp [idx t] at * <;> omega)
  all_goals (blk_simp [idx t] <;> first | omega | (dsimp only; omega))

end Cert.Proof.UpValue

end
-- ==== Proof.DownValue.lean ====
/-
  The FFN's down projection: the array the pipelined kernel leaves is the residual stream plus the gated product.
-/
module

public import proofs.«01_k».proof.Proof.Gen.KernelDownIdeal.Value
public import proofs.«01_k».proof.Proof.Gen.ReferenceDownIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.DownValue

open Cert.KernelDownIdeal Cert.KernelDownIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its four arguments: the residual stream plus the gated product, the context
    rows gated by row 0 of the modulation table and each latent sequence by its own row. -/
abbrev residual (a0 : FVec Ideal Cert.ReferenceDownIdeal.S16384x11008 .bf16) (a1 : FVec Ideal Cert.ReferenceDownIdeal.S11008x4096 .f32)
    (a2 : FVec Ideal Cert.ReferenceDownIdeal.S16384x4096 .f32) (a3 : FVec Ideal Cert.ReferenceDownIdeal.S16x6x1x4096 .f32) :
    FVec Ideal Cert.ReferenceDownIdeal.S16384x4096 .f32 :=
  concatenate Cert.ReferenceDownIdeal.S16384x4096 0 [⟨Cert.ReferenceDownIdeal.S8192x4096, (shapeCast _ (addf (shapeCast _ (extractStridedSlice Cert.ReferenceDownIdeal.S8192x4096 ![0, 0] a2 Cert.ReferenceDownIdeal.Gen.slices_S16384x4096_S8192x4096_0_0) Cert.ReferenceDownIdeal.Gen.shapeCasts_S8192x4096_S32x256x4096) (mulf (broadcastInDim Cert.ReferenceDownIdeal.S32x256x4096 ![0, 1, 2] Cert.ReferenceDownIdeal.Gen.bcast_S1x1x4096_S32x256x4096_0_1_2 (extractStridedSlice Cert.ReferenceDownIdeal.S1x1x4096 ![0, 0, 0] (shapeCast _ (extractStridedSlice Cert.ReferenceDownIdeal.S16x1x1x4096 ![0, 5, 0, 0] a3 Cert.ReferenceDownIdeal.Gen.slices_S16x6x1x4096_S16x1x1x4096_0_5_0_0) Cert.ReferenceDownIdeal.Gen.shapeCasts_S16x1x1x4096_S16x1x4096) Cert.ReferenceDownIdeal.Gen.slices_S16x1x4096_S1x1x4096_0_0_0)) (shapeCast _ (extractStridedSlice Cert.ReferenceDownIdeal.S8192x4096 ![0, 0] (Host.dotGeneral Cert.ReferenceDownIdeal.dot_S16384x11008_S11008x4096_S16384x4096_1_0_0_1_n_n none (extf .f32 a0 Cert.ReferenceDownIdeal.Gen.bitsLt_bf16_f32) a1) Cert.ReferenceDownIdeal.Gen.slices_S16384x4096_S8192x4096_0_0) Cert.ReferenceDownIdeal.Gen.shapeCasts_S8192x4096_S32x256x4096))) Cert.ReferenceDownIdeal.Gen.shapeCasts_S32x256x4096_S8192x4096)⟩,
    ⟨Cert.ReferenceDownIdeal.S8192x4096, (shapeCast _ (addf (shapeCast _ (extractStridedSlice Cert.ReferenceDownIdeal.S8192x4096 ![8192, 0] a2 Cert.ReferenceDownIdeal.Gen.slices_S16384x4096_S8192x4096_8192_0) Cert.ReferenceDownIdeal.Gen.shapeCasts_S8192x4096_S8x1024x4096) (mulf (broadcastInDim Cert.ReferenceDownIdeal.S8x1024x4096 ![0, 1, 2] Cert.ReferenceDownIdeal.Gen.bcast_S8x1x4096_S8x1024x4096_0_1_2 (extractStridedSlice Cert.ReferenceDownIdeal.S8x1x4096 ![1, 0, 0] (shapeCast _ (extractStridedSlice Cert.ReferenceDownIdeal.S16x1x1x4096 ![0, 5, 0, 0] a3 Cert.ReferenceDownIdeal.Gen.slices_S16x6x1x4096_S16x1x1x4096_0_5_0_0) Cert.ReferenceDownIdeal.Gen.shapeCasts_S16x1x1x4096_S16x1x4096) Cert.ReferenceDownIdeal.Gen.slices_S16x1x4096_S8x1x4096_1_0_0)) (shapeCast _ (extractStridedSlice Cert.ReferenceDownIdeal.S8192x4096 ![8192, 0] (Host.dotGeneral Cert.ReferenceDownIdeal.dot_S16384x11008_S11008x4096_S16384x4096_1_0_0_1_n_n none (extf .f32 a0 Cert.ReferenceDownIdeal.Gen.bitsLt_bf16_f32) a1) Cert.ReferenceDownIdeal.Gen.slices_S16384x4096_S8192x4096_8192_0) Cert.ReferenceDownIdeal.Gen.shapeCasts_S8192x4096_S8x1024x4096))) Cert.ReferenceDownIdeal.Gen.shapeCasts_S8x1024x4096_S8192x4096)⟩] Cert.ReferenceDownIdeal.Gen.concatenates_S8192x4096_S8192x4096_S16384x4096_d0

/-- The blocks of a grid point: a band of rows, a band of columns, their tile, and the gate row of the band's sequence. -/
theorem idx : ∀ t : Fin cfg0.N, win0_0.index t = ![t.val / 16, 0] ∧ win0_1.index t = ![0, t.val % 16]
    ∧ win0_2.index t = ![t.val / 16, t.val % 16]
    ∧ win0_3.index t = ![if t.val / 16 < 8 then 0 else t.val / 16 - 7, 5, 0, t.val % 16]
    ∧ win0_4.index t = ![t.val / 16, t.val % 16] :=
  (by decide +kernel : ∀ t : Fin grid0.N, _)

/-- One entry of the tile a grid point computes is the reference's entry `j`, `j` being the tile's place. -/
theorem core (c : Dev nD) (t : Fin cfg0.N) (y : S1024x256.Idx) (j : Cert.ReferenceDownIdeal.S16384x4096.Idx)
    (hj0 : (j 0 : ℕ) = t.val / 16 * 1024 + (y 0 : ℕ)) (hj1 : (j 1 : ℕ) = t.val % 16 * 256 + (y 1 : ℕ)) :
    k0_pay1 (F := Ideal) (iblk m c 2 t) (iblk m c 3 t) (iblk m c 0 t) (iblk m c 1 t) y
      = residual (m ((c : Thread nD τ).loc main_arg0)) (m ((c : Thread nD τ).loc main_arg1))
          (m ((c : Thread nD τ).loc main_arg2)) (m ((c : Thread nD τ).loc main_arg3)) j := by
  pointwise [k0_pay1, residual]
  split
  · rename_i hc
    have hi : t.val / 16 < 8 := by omega
    have ix := idx t
    simp only [hi, if_true] at ix
    blk_point [iblk, V, ix]
  · rename_i hc
    have hy : (y 0 : ℕ) < 1024 := (y 0).isLt
    have hi : ¬ t.val / 16 < 8 := by omega
    have ix := idx t
    simp only [hi, if_false] at ix
    blk_point [iblk, V, ix]

/-- The same at the tile's own place in the result. -/
theorem point (c : Dev nD) (t : Fin cfg0.N) (y) :
    k0_pay1 (F := Ideal) (iblk m c 2 t) (iblk m c 3 t) (iblk m c 0 t) (iblk m c 1 t) y
      = residual (m ((c : Thread nD τ).loc main_arg0)) (m ((c : Thread nD τ).loc main_arg1))
          (m ((c : Thread nD τ).loc main_arg2)) (m ((c : Thread nD τ).loc main_arg3)) (((cfg0.win 4).blk t).view.emb y) := by
  refine core m c t y _ ?_ ?_
  all_goals (blk_simp [idx t] <;> try omega)

/-- The result array after the run is the reference's result. -/
theorem final (c : Dev nD) :
    (dats m 0 c).arrAt 4 (cfgs 0).N
      = residual (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Proof.DownValue

end
-- ==== Proof.ProjValue.lean ====
/-
  The input projection: the array the pipelined kernel leaves is the product of the two argument matrices, entry by entry.
-/
module

public import proofs.«01_k».proof.Proof.Gen.KernelProjIdeal.Value
public import proofs.«01_k».proof.Proof.Gen.ReferenceProjIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.ProjValue

open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the two matrices: their product in 32-bit floats. -/
abbrev product (h : FVec Ideal Cert.ReferenceProjIdeal.S16384x4096 .bf16) (w : FVec Ideal Cert.ReferenceProjIdeal.S4096x12288 .bf16) :
    FVec Ideal Cert.ReferenceProjIdeal.S16384x12288 .f32 :=
  Host.dotGeneral Cert.ReferenceProjIdeal.dot_S16384x4096_S4096x12288_S16384x12288_1_0_0_1_n_n none
    (extf .f32 h Cert.ReferenceProjIdeal.Gen.bitsLt_bf16_f32) (extf .f32 w Cert.ReferenceProjIdeal.Gen.bitsLt_bf16_f32)

/-- The blocks of a grid point: a row band of the left matrix, a column band of the right one, and their tile of the result. -/
theorem idx : ∀ t : Fin cfg0.N, win0_0.index t = ![t.val / 12, 0] ∧ win0_1.index t = ![0, t.val % 12]
    ∧ win0_2.index t = ![t.val / 12, t.val % 12] :=
  (by decide +kernel : ∀ t : Fin grid0.N, _)

/-- One entry of the tile a grid point computes is the entry of the whole product at the tile's place. -/
theorem point (c : Dev nD) (t : Fin cfg0.N) (y) :
    k0_pay1 (F := Ideal) (iblk m c 0 t) (iblk m c 1 t) y
      = product (m ((c : Thread nD τ).loc main_arg0)) (m ((c : Thread nD τ).loc main_arg1)) (((cfg0.win 2).blk t).view.emb y) := by
  pointwise [k0_pay1, product]
  blk_point [iblk, V, idx t]

/-- The result array after the run is the product of the two argument matrices. -/
theorem final (c : Dev nD) :
    (dats m 0 c).arrAt 2 (cfgs 0).N
      = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.ProjValue

end
-- ==== Proof.CachesRun.lean ====
/-
  The run of the caches' program with its four products: what every buffer holds when it ends.
-/
module

public import proofs.«01_k».proof.Proof.Gen.KernelCachesIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Proof.CachesRun

open Cert.KernelCachesIdeal Cert.KernelCachesIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "Res" => MT nD τ sig Unit (Elt Ideal) ℕ (UR sig nD τ) ℕ

variable (m : (ℓ : Loc nD τ sig) → Buf (Elt Ideal) ℓ) (ρ : Dev nD → PrngReg)

/-- What the launch gives a core besides its buffers is enough to start the first stretch of host operations. -/
theorem entry (c : Dev nD) :
    (iprop(unscopedBufs c (fun b => m ((c : Thread nD τ).loc b)) ∗ (∃ r, prngReg c r)
      ∗ ∃ W, owes (c : Thread nD τ) (0 : CellTallies nD τ sig Unit) W) : sProp Res)
      ⊢ iprop(StableHlo.held (c : Thread nD τ) (Pipeline.ucRefs τ sig) (W0 m ρ c) ∗ R c) := by
  rw [Pipeline.unscopedBufs_held c (W0 m ρ c)]

/-- Nothing at all is nothing on every core. -/
theorem nothing : (BI.emp : sProp Res) ⊢ bigSep Finset.univ fun _ : Dev nD => (BI.emp : sProp Res) := by
  rw [BI.bigSep_emp_const]

/-- The launch's tokens are the pipelines' own. -/
theorem tokens (x : UR sig nD τ) : (ownU x : sProp Res) ⊢ BI.own (emb₁ x) := .rfl

set_option backward.isDefEq.respectTransparency.types false in
/-- The program ends with every buffer of every core at the contents the stretches and the four products leave. -/
theorem run : θ_run defs (onTc (τ := τ) (main (F := Ideal))) ⟨m, fun _ => 0, ρ⟩ fun r =>
    ∀ c : Dev nD, ∀ b ∈ Pipeline.ucRefs τ sig, r.2.mem ((c : Dev nD), b) = W9 m ρ c b :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (tokens _); iexact H
      iapply nothing; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
      dsimp only [Pipeline.Seg.post, hseg, Pipeline.HostSeg.ofOps]
      iintro ⟨Hb, Hr, Ho⟩
      isplitr [Ho]
      · isplitl [Hb] <;> iassumption
      iexact Ho⟩)
    (hinit := by
      refine Pipeline.initEach L lv fun c => ?_
      iintro ⟨⟨Hb, -, Ho, -, Hr, -⟩, -⟩
      imodintro
      iapply (entry m ρ c)
      isplitl [Hb]; · iexact Hb
      isplitl [Hr]
      · iexists _; iexact Hr
      iexists ∅; iexact Ho)
    (QY := fun c s => ∀ b ∈ Pipeline.ucRefs τ sig, s.mem ((c : Dev nD), b) = W9 m ρ c b)
    (hfin := fun c s => by
      iintro ⟨⟨Hb, -⟩, HS⟩
      unfold StableHlo.held
      imodintro
      iapply (pointsTo_read_all (Pipeline.ucRefs τ sig) (fun b => ((c : Dev nD), b)) (W9 m ρ c) s)
      isplitl [Hb] <;> iassumption)
    (hQ := fun _ h => h)

end Cert.Proof.CachesRun

end
-- ==== Proof.CachesReference.lean ====
/-
  The new caches as the reference computes them: the keys and values of the context tokens, every layer.
-/
module

public import proofs.«01_k».proof.Proof.Gen.ReferenceCachesIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.CachesReference

open Cert.ReferenceCachesIdeal Cert.ReferenceCachesIdeal.Gen Idealize.ShloMosaic Idealize.ShloMosaic.TcCoe Idealize.SL.Sem

/-- The context tokens of one layer times the layer's matrix, by sequence and position. -/
abbrev projected (h : FVec Ideal S16384x4096 .bf16) (w : FVec Ideal S4096x12288 .f32) : FVec Ideal S32x256x12288 .f32 :=
  Host.dotGeneral dot_S32x256x4096_S4096x12288_S32x256x12288_2_0_01_1_n_n none
    (shapeCast _ (extf .f32 (extractStridedSlice S8192x4096 ![0, 0] h slices_S16384x4096_S8192x4096_0_0) bitsLt_bf16_f32)
      shapeCasts_S8192x4096_S32x256x4096) w

/-- The first layer's matrix. -/
abbrev matrix0 (w : FVec Ideal S4x4096x12288 .f32) : FVec Ideal S4096x12288 .f32 :=
  shapeCast _ (extractStridedSlice S1x4096x12288 ![0, 0, 0] w slices_S4x4096x12288_S1x4096x12288_0_0_0) shapeCasts_S1x4096x12288_S4096x12288
/-- The second layer's matrix. -/
abbrev matrix1 (w : FVec Ideal S4x4096x12288 .f32) : FVec Ideal S4096x12288 .f32 :=
  shapeCast _ (extractStridedSlice S1x4096x12288 ![1, 0, 0] w slices_S4x4096x12288_S1x4096x12288_1_0_0) shapeCasts_S1x4096x12288_S4096x12288
/-- The third layer's matrix. -/
abbrev matrix2 (w : FVec Ideal S4x4096x12288 .f32) : FVec Ideal S4096x12288 .f32 :=
  shapeCast _ (extractStridedSlice S1x4096x12288 ![2, 0, 0] w slices_S4x4096x12288_S1x4096x12288_2_0_0) shapeCasts_S1x4096x12288_S4096x12288
/-- The fourth layer's matrix. -/
abbrev matrix3 (w : FVec Ideal S4x4096x12288 .f32) : FVec Ideal S4096x12288 .f32 :=
  shapeCast _ (extractStridedSlice S1x4096x12288 ![3, 0, 0] w slices_S4x4096x12288_S1x4096x12288_3_0_0) shapeCasts_S1x4096x12288_S4096x12288

/-- The keys of one layer by head, with an axis for the layer. -/
abbrev keys (p : FVec Ideal S32x256x12288 .f32) : FVec Ideal S32x1x256x12x128 .f32 :=
  broadcastInDim S32x1x256x12x128 ![0, 2, 3, 4] bcast_S32x256x12x128_S32x1x256x12x128_0_2_3_4
    (shapeCast _ (extractStridedSlice S32x256x1536 ![0, 0, 1536] p slices_S32x256x12288_S32x256x1536_0_0_1536) shapeCasts_S32x256x1536_S32x256x12x128)

/-- The values of one layer by head, with an axis for the layer. -/
abbrev values (p : FVec Ideal S32x256x12288 .f32) : FVec Ideal S32x1x256x12x128 .f32 :=
  broadcastInDim S32x1x256x12x128 ![0, 2, 3, 4] bcast_S32x256x12x128_S32x1x256x12x128_0_2_3_4
    (shapeCast _ (extractStridedSlice S32x256x1536 ![0, 0, 3072] p slices_S32x256x12288_S32x256x1536_0_0_3072) shapeCasts_S32x256x1536_S32x256x12x128)

/-- Four layers' arrays in one, along the layers' axis. -/
abbrev stacked (x0 x1 x2 x3 : FVec Ideal S32x1x256x12x128 .f32) : FVec Ideal S32x4x256x12x128 .f32 :=
  concatenate S32x4x256x12x128 1 [⟨S32x1x256x12x128, x0⟩, ⟨S32x1x256x12x128, x1⟩, ⟨S32x1x256x12x128, x2⟩, ⟨S32x1x256x12x128, x3⟩]
    concatenates_S32x1x256x12x128_S32x1x256x12x128_S32x1x256x12x128_S32x1x256x12x128_S32x4x256x12x128_d1

/-- The reference's new key cache. -/
abbrev cacheK (h0 h1 h2 h3 : FVec Ideal S16384x4096 .bf16) (w : FVec Ideal S4x4096x12288 .f32) : FVec Ideal S32x4x256x12x128 .f32 :=
  stacked (keys (projected h0 (matrix0 w))) (keys (projected h1 (matrix1 w))) (keys (projected h2 (matrix2 w))) (keys (projected h3 (matrix3 w)))

/-- The reference's new value cache. -/
abbrev cacheV (h0 h1 h2 h3 : FVec Ideal S16384x4096 .bf16) (w : FVec Ideal S4x4096x12288 .f32) : FVec Ideal S32x4x256x12x128 .f32 :=
  stacked (values (projected h0 (matrix0 w))) (values (projected h1 (matrix1 w))) (values (projected h2 (matrix2 w))) (values (projected h3 (matrix3 w)))

variable (m : (ℓ : Loc nD τ sig) → Buf (Elt Ideal) ℓ) (ρ : Dev nD → PrngReg)

/-- The reference ends with the two caches in its results and its arguments unchanged. -/
theorem run : θ_run defs (onTc (τ := τ) (main (F := Ideal))) ⟨m, fun _ => 0, ρ⟩ fun r => ∀ c : Dev nD,
      r.2.mem ((c.tc : Thread nD τ).loc main_v52) = cacheK (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v57) = cacheV (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.Proof.CachesReference

end
-- ==== Proof.CachesValue.lean ====
/-
  The new caches: the two arrays the kernel's program leaves are the keys and the values of the context tokens of the four layers.
-/
module

public import proofs.«01_k».proof.Proof.CachesRun
public import proofs.«01_k».proof.Proof.CachesReference

@[expose] public section

set_option maxRecDepth 16384

noncomputable section

namespace Cert.Proof.CachesValue

open Cert.KernelCachesIdeal Cert.KernelCachesIdeal.Gen Idealize.ShloMosaic Idealize.ShloMosaic.TcCoe Idealize.SL.Sem
open Idealize.ShloMosaic.Pipeline (Dat)
open Cert.Proof.CachesReference (projected cacheK cacheV)

/-- The product of one layer's tokens, all of them, with its matrix, by row and column. -/
def product (h : FVec Ideal S16384x4096 .bf16) (w : FVec Ideal S4096x12288 .bf16) : FVec Ideal S16384x12288 .f32 :=
  fun i => (∑ k : Fin 4096, (h (ix2 (i 0) k) * w (ix2 k (i 1)) : EReal))

section Regions

variable (V : (c : Dev nD) → (b : Ref sig .tc) → Buf (Elt Ideal) ((c : Thread nD τ).loc b))

/-- The blocks of a grid point of the first call: a row band of the tokens, a column band of the matrix, and their tile. -/
theorem idx0 : ∀ t : Fin cfg0.N, win0_0.index t = ![t.val / 12, 0] ∧ win0_1.index t = ![0, t.val % 12]
    ∧ win0_2.index t = ![t.val / 12, t.val % 12] :=
  (by decide +kernel : ∀ t : Fin grid0.N, _)

/-- One entry of a tile of the first call is the product's entry at the tile's place. -/
theorem point0 (c : Dev nD) (t : Fin cfg0.N) (y) :
    k0_pay1 (F := Ideal) (iblk0 V c 0 t) (iblk0 V c 1 t) y
      = product (V c main_arg0) (V c main_v2) (((cfg0.win 2).blk t).view.emb y) := by
  pointwise [k0_pay1, product]
  blk_point [iblk0, idx0 t]

/-- The first call leaves the product of the arrays it is given. -/
theorem product0 (c : Dev nD) :
    (dat0 V c).arrAt 2 cfg0.N = product (V c main_arg0) (V c main_v2) := by
  refine (dat0 V c).arrAt_eq_of_covers 2 _ (by decide +kernel) fun t _ y => ?_
  blk_simp
  rw [after0_2]; frame_out
  exact point0 V c t y

/-- The blocks of a grid point of the second call: a row band of the tokens, a column band of the matrix, and their tile. -/
theorem idx1 : ∀ t : Fin cfg1.N, win1_0.index t = ![t.val / 12, 0] ∧ win1_1.index t = ![0, t.val % 12]
    ∧ win1_2.index t = ![t.val / 12, t.val % 12] :=
  (by decide +kernel : ∀ t : Fin grid1.N, _)

/-- One entry of a tile of the second call is the product's entry at the tile's place. -/
theorem point1 (c : Dev nD) (t : Fin cfg1.N) (y) :
    k1_pay1 (F := Ideal) (iblk1 V c 0 t) (iblk1 V c 1 t) y
      = product (V c main_arg1) (V c main_v10) (((cfg1.win 2).blk t).view.emb y) := by
  pointwise [k1_pay1, product]
  blk_point [iblk1, idx1 t]

/-- The second call leaves the product of the arrays it is given. -/
theorem product1 (c : Dev nD) :
    (dat1 V c).arrAt 2 cfg1.N = product (V c main_arg1) (V c main_v10) := by
  refine (dat1 V c).arrAt_eq_of_covers 2 _ (by decide +kernel) fun t _ y => ?_
  blk_simp
  rw [after1_2]; frame_out
  exact point1 V c t y

/-- The blocks of a grid point of the third call: a row band of the tokens, a column band of the matrix, and their tile. -/
theorem idx2 : ∀ t : Fin cfg2.N, win2_0.index t = ![t.val / 12, 0] ∧ win2_1.index t = ![0, t.val % 12]
    ∧ win2_2.index t = ![t.val / 12, t.val % 12] :=
  (by decide +kernel : ∀ t : Fin grid2.N, _)

/-- One entry of a tile of the third call is the product's entry at the tile's place. -/
theorem point2 (c : Dev nD) (t : Fin cfg2.N) (y) :
    k2_pay1 (F := Ideal) (iblk2 V c 0 t) (iblk2 V c 1 t) y
      = product (V c main_arg2) (V c main_v18) (((cfg2.win 2).blk t).view.emb y) := by
  pointwise [k2_pay1, product]
  blk_point [iblk2, idx2 t]

/-- The third call leaves the product of the arrays it is given. -/
theorem product2 (c : Dev nD) :
    (dat2 V c).arrAt 2 cfg2.N = product (V c main_arg2) (V c main_v18) := by
  refine (dat2 V c).arrAt_eq_of_covers 2 _ (by decide +kernel) fun t _ y => ?_
  blk_simp
  rw [after2_2]; frame_out
  exact point2 V c t y

/-- The blocks of a grid point of the fourth call: a row band of the tokens, a column band of the matrix, and their tile. -/
theorem idx3 : ∀ t : Fin cfg3.N, win3_0.index t = ![t.val / 12, 0] ∧ win3_1.index t = ![0, t.val % 12]
    ∧ win3_2.index t = ![t.val / 12, t.val % 12] :=
  (by decide +kernel : ∀ t : Fin grid3.N, _)

/-- One entry of a tile of the fourth call is the product's entry at the tile's place. -/
theorem point3 (c : Dev nD) (t : Fin cfg3.N) (y) :
    k3_pay1 (F := Ideal) (iblk3 V c 0 t) (iblk3 V c 1 t) y
      = product (V c main_arg3) (V c main_v26) (((cfg3.win 2).blk t).view.emb y) := by
  pointwise [k3_pay1, product]
  blk_point [iblk3, idx3 t]

/-- The fourth call leaves the product of the arrays it is given. -/
theorem product3 (c : Dev nD) :
    (dat3 V c).arrAt 2 cfg3.N = product (V c main_arg3) (V c main_v26) := by
  refine (dat3 V c).arrAt_eq_of_covers 2 _ (by decide +kernel) fun t _ y => ?_
  blk_simp
  rw [after3_2]; frame_out
  exact point3 V c t y

end Regions

variable (m : (ℓ : Loc nD τ sig) → Buf (Elt Ideal) ℓ) (ρ : Dev nD → PrngReg)

/-- The first call is given the first layer's matrix. -/
theorem matrix_first (c : Dev nD) :
    W1 m ρ c (Proc.devRef .tc main_v2) = truncf .bf16 (Cert.Proof.CachesReference.matrix0 (m ((c : Thread nD τ).loc main_arg4))) bitsLt_bf16_f32 := by
  have h : W0 m ρ c (Proc.devRef .tc main_arg4) = m ((c : Thread nD τ).loc main_arg4) := W0_args m ρ c main_arg4 (by decide)
  rw [← h]
  show StableHlo.after hostOps0 (W0 m ρ c) (Proc.devRef .tc main_v2) = _
  after_results
  rfl

/-- The first call leaves the product of the first layer's tokens and matrix. -/
theorem left_first (c : Dev nD) :
    W2 m ρ c (Proc.devRef .tc main_v3) = product (m ((c : Thread nD τ).loc main_arg0))
      (truncf .bf16 (Cert.Proof.CachesReference.matrix0 (m ((c : Thread nD τ).loc main_arg4))) bitsLt_bf16_f32) := by
  refine (W2_arr m ρ c 2).trans ((product0 (V1 m ρ) c).trans ?_)
  exact congrArg₂ product (W1_args m ρ c main_arg0 (by decide)) (matrix_first m ρ c)

/-- The second call is given the second layer's matrix. -/
theorem matrix_second (c : Dev nD) :
    W3 m ρ c (Proc.devRef .tc main_v10) = truncf .bf16 (Cert.Proof.CachesReference.matrix1 (m ((c : Thread nD τ).loc main_arg4))) bitsLt_bf16_f32 := by
  have h : W2 m ρ c (Proc.devRef .tc main_arg4) = m ((c : Thread nD τ).loc main_arg4) := W2_args m ρ c main_arg4 (by decide)
  rw [← h]
  show StableHlo.after hostOps1 (W2 m ρ c) (Proc.devRef .tc main_v10) = _
  after_results
  rfl

/-- The second call leaves the product of the second layer's tokens and matrix. -/
theorem left_second (c : Dev nD) :
    W4 m ρ c (Proc.devRef .tc main_v11) = product (m ((c : Thread nD τ).loc main_arg1))
      (truncf .bf16 (Cert.Proof.CachesReference.matrix1 (m ((c : Thread nD τ).loc main_arg4))) bitsLt_bf16_f32) := by
  refine (W4_arr m ρ c 2).trans ((product1 (V3 m ρ) c).trans ?_)
  exact congrArg₂ product (W3_args m ρ c main_arg1 (by decide)) (matrix_second m ρ c)

/-- The third call is given the third layer's matrix. -/
theorem matrix_third (c : Dev nD) :
    W5 m ρ c (Proc.devRef .tc main_v18) = truncf .bf16 (Cert.Proof.CachesReference.matrix2 (m ((c : Thread nD τ).loc main_arg4))) bitsLt_bf16_f32 := by
  have h : W4 m ρ c (Proc.devRef .tc main_arg4) = m ((c : Thread nD τ).loc main_arg4) := W4_args m ρ c main_arg4 (by decide)
  rw [← h]
  show StableHlo.after hostOps2 (W4 m ρ c) (Proc.devRef .tc main_v18) = _
  after_results
  rfl

/-- The third call leaves the product of the third layer's tokens and matrix. -/
theorem left_third (c : Dev nD) :
    W6 m ρ c (Proc.devRef .tc main_v19) = product (m ((c : Thread nD τ).loc main_arg2))
      (truncf .bf16 (Cert.Proof.CachesReference.matrix2 (m ((c : Thread nD τ).loc main_arg4))) bitsLt_bf16_f32) := by
  refine (W6_arr m ρ c 2).trans ((product2 (V5 m ρ) c).trans ?_)
  exact congrArg₂ product (W5_args m ρ c main_arg2 (by decide)) (matrix_third m ρ c)

/-- The fourth call is given the fourth layer's matrix. -/
theorem matrix_fourth (c : Dev nD) :
    W7 m ρ c (Proc.devRef .tc main_v26) = truncf .bf16 (Cert.Proof.CachesReference.matrix3 (m ((c : Thread nD τ).loc main_arg4))) bitsLt_bf16_f32 := by
  have h : W6 m ρ c (Proc.devRef .tc main_arg4) = m ((c : Thread nD τ).loc main_arg4) := W6_args m ρ c main_arg4 (by decide)
  rw [← h]
  show StableHlo.after hostOps3 (W6 m ρ c) (Proc.devRef .tc main_v26) = _
  after_results
  rfl

/-- The fourth call leaves the product of the fourth layer's tokens and matrix. -/
theorem left_fourth (c : Dev nD) :
    W8 m ρ c (Proc.devRef .tc main_v27) = product (m ((c : Thread nD τ).loc main_arg3))
      (truncf .bf16 (Cert.Proof.CachesReference.matrix3 (m ((c : Thread nD τ).loc main_arg4))) bitsLt_bf16_f32) := by
  refine (W8_arr m ρ c 2).trans ((product3 (V7 m ρ) c).trans ?_)
  exact congrArg₂ product (W7_args m ρ c main_arg3 (by decide)) (matrix_fourth m ρ c)

/-- The keys of the context tokens of one layer, cut out of the layer's product. -/
abbrev keyPart (p : FVec Ideal S16384x12288 .f32) : FVec Ideal S32x256x1536 .f32 :=
  shapeCast _ (extractStridedSlice S8192x1536 ![0, 1536] p slices_S16384x12288_S8192x1536_0_1536) shapeCasts_S8192x1536_S32x256x1536

/-- The values of the context tokens of one layer, cut out of the layer's product. -/
abbrev valuePart (p : FVec Ideal S16384x12288 .f32) : FVec Ideal S32x256x1536 .f32 :=
  shapeCast _ (extractStridedSlice S8192x1536 ![0, 3072] p slices_S16384x12288_S8192x1536_0_3072) shapeCasts_S8192x1536_S32x256x1536

/-- Four layers' parts in one array, their columns sorted by head. -/
abbrev stacked (x0 x1 x2 x3 : FVec Ideal S32x256x1536 .f32) : FVec Ideal S32x4x256x12x128 .f32 :=
  shapeCast _ (concatenate S32x4x256x1536 1
    [⟨S32x1x256x1536, broadcastInDim S32x1x256x1536 ![0, 2, 3] bcast_S32x256x1536_S32x1x256x1536_0_2_3 x0⟩,
      ⟨S32x1x256x1536, broadcastInDim S32x1x256x1536 ![0, 2, 3] bcast_S32x256x1536_S32x1x256x1536_0_2_3 x1⟩,
      ⟨S32x1x256x1536, broadcastInDim S32x1x256x1536 ![0, 2, 3] bcast_S32x256x1536_S32x1x256x1536_0_2_3 x2⟩,
      ⟨S32x1x256x1536, broadcastInDim S32x1x256x1536 ![0, 2, 3] bcast_S32x256x1536_S32x1x256x1536_0_2_3 x3⟩]
    concatenates_S32x1x256x1536_S32x1x256x1536_S32x1x256x1536_S32x1x256x1536_S32x4x256x1536_d1) shapeCasts_S32x4x256x1536_S32x4x256x12x128

/-- The first layer's keys are still there when the last call is done. -/
theorem keys_first (c : Dev nD) : W8 m ρ c (Proc.devRef .tc main_v5) = keyPart (W2 m ρ c (Proc.devRef .tc main_v3)) := by
  refine (W8_of m ρ c main_v5 (by decide)).trans <| (W7_of m ρ c main_v5 (by decide)).trans <| (W6_of m ρ c main_v5 (by decide)).trans <| (W5_of m ρ c main_v5 (by decide)).trans <| (W4_of m ρ c main_v5 (by decide)).trans <| ?_
  show StableHlo.after hostOps1 (W2 m ρ c) (Proc.devRef .tc main_v5) = _
  after_results
  rfl

/-- The first layer's values are still there when the last call is done. -/
theorem values_first (c : Dev nD) : W8 m ρ c (Proc.devRef .tc main_v7) = valuePart (W2 m ρ c (Proc.devRef .tc main_v3)) := by
  refine (W8_of m ρ c main_v7 (by decide)).trans <| (W7_of m ρ c main_v7 (by decide)).trans <| (W6_of m ρ c main_v7 (by decide)).trans <| (W5_of m ρ c main_v7 (by decide)).trans <| (W4_of m ρ c main_v7 (by decide)).trans <| ?_
  show StableHlo.after hostOps1 (W2 m ρ c) (Proc.devRef .tc main_v7) = _
  after_results
  rfl

/-- The second layer's keys are still there when the last call is done. -/
theorem keys_second (c : Dev nD) : W8 m ρ c (Proc.devRef .tc main_v13) = keyPart (W4 m ρ c (Proc.devRef .tc main_v11)) := by
  refine (W8_of m ρ c main_v13 (by decide)).trans <| (W7_of m ρ c main_v13 (by decide)).trans <| (W6_of m ρ c main_v13 (by decide)).trans <| ?_
  show StableHlo.after hostOps2 (W4 m ρ c) (Proc.devRef .tc main_v13) = _
  after_results
  rfl

/-- The second layer's values are still there when the last call is done. -/
theorem values_second (c : Dev nD) : W8 m ρ c (Proc.devRef .tc main_v15) = valuePart (W4 m ρ c (Proc.devRef .tc main_v11)) := by
  refine (W8_of m ρ c main_v15 (by decide)).trans <| (W7_of m ρ c main_v15 (by decide)).trans <| (W6_of m ρ c main_v15 (by decide)).trans <| ?_
  show StableHlo.after hostOps2 (W4 m ρ c) (Proc.devRef .tc main_v15) = _
  after_results
  rfl

/-- The third layer's keys are still there when the last call is done. -/
theorem keys_third (c : Dev nD) : W8 m ρ c (Proc.devRef .tc main_v21) = keyPart (W6 m ρ c (Proc.devRef .tc main_v19)) := by
  refine (W8_of m ρ c main_v21 (by decide)).trans <| ?_
  show StableHlo.after hostOps3 (W6 m ρ c) (Proc.devRef .tc main_v21) = _
  after_results
  rfl

/-- The third layer's values are still there when the last call is done. -/
theorem values_third (c : Dev nD) : W8 m ρ c (Proc.devRef .tc main_v23) = valuePart (W6 m ρ c (Proc.devRef .tc main_v19)) := by
  refine (W8_of m ρ c main_v23 (by decide)).trans <| ?_
  show StableHlo.after hostOps3 (W6 m ρ c) (Proc.devRef .tc main_v23) = _
  after_results
  rfl

/-- The program's keys are the four layers' parts, stacked. -/
theorem result_keys (c : Dev nD) : W9 m ρ c (Proc.devRef .tc main_v37)
    = stacked (W8 m ρ c (Proc.devRef .tc main_v5)) (W8 m ρ c (Proc.devRef .tc main_v13)) (W8 m ρ c (Proc.devRef .tc main_v21))
        (keyPart (W8 m ρ c (Proc.devRef .tc main_v27))) := by
  show StableHlo.after hostOps4 (W8 m ρ c) (Proc.devRef .tc main_v37) = _
  after_results_simp <;> (try dsimp only [Matrix.cons_val]) <;> (try after_results_simp) <;> rfl

/-- The program's values are the four layers' parts, stacked. -/
theorem result_values (c : Dev nD) : W9 m ρ c (Proc.devRef .tc main_v43)
    = stacked (W8 m ρ c (Proc.devRef .tc main_v7)) (W8 m ρ c (Proc.devRef .tc main_v15)) (W8 m ρ c (Proc.devRef .tc main_v23))
        (valuePart (W8 m ρ c (Proc.devRef .tc main_v27))) := by
  show StableHlo.after hostOps4 (W8 m ρ c) (Proc.devRef .tc main_v43) = _
  after_results_simp <;> (try dsimp only [Matrix.cons_val]) <;> (try after_results_simp) <;> rfl

/-- Stacking the keys cut out of the products of all tokens gives what stacking the context tokens' keys gives. -/
theorem stacked_keys (h0 h1 h2 h3 : FVec Ideal S16384x4096 .bf16) (w0 w1 w2 w3 : FVec Ideal S4096x12288 .f32) :
    stacked (keyPart (product h0 (truncf .bf16 w0 bitsLt_bf16_f32))) (keyPart (product h1 (truncf .bf16 w1 bitsLt_bf16_f32)))
        (keyPart (product h2 (truncf .bf16 w2 bitsLt_bf16_f32))) (keyPart (product h3 (truncf .bf16 w3 bitsLt_bf16_f32)))
      = Cert.Proof.CachesReference.stacked (Cert.Proof.CachesReference.keys (projected h0 w0)) (Cert.Proof.CachesReference.keys (projected h1 w1))
        (Cert.Proof.CachesReference.keys (projected h2 w2)) (Cert.Proof.CachesReference.keys (projected h3 w3)) := by
  funext i
  pointwise [stacked, keyPart, product, projected, Cert.Proof.CachesReference.stacked, Cert.Proof.CachesReference.keys]

/-- Stacking the values cut out of the products of all tokens gives what stacking the context tokens' values gives. -/
theorem stacked_values (h0 h1 h2 h3 : FVec Ideal S16384x4096 .bf16) (w0 w1 w2 w3 : FVec Ideal S4096x12288 .f32) :
    stacked (valuePart (product h0 (truncf .bf16 w0 bitsLt_bf16_f32))) (valuePart (product h1 (truncf .bf16 w1 bitsLt_bf16_f32)))
        (valuePart (product h2 (truncf .bf16 w2 bitsLt_bf16_f32))) (valuePart (product h3 (truncf .bf16 w3 bitsLt_bf16_f32)))
      = Cert.Proof.CachesReference.stacked (Cert.Proof.CachesReference.values (projected h0 w0)) (Cert.Proof.CachesReference.values (projected h1 w1))
        (Cert.Proof.CachesReference.values (projected h2 w2)) (Cert.Proof.CachesReference.values (projected h3 w3)) := by
  funext i
  pointwise [stacked, valuePart, product, projected, Cert.Proof.CachesReference.stacked, Cert.Proof.CachesReference.values]

/-- The program's keys are the reference's. -/
theorem final_keys (c : Dev nD) : W9 m ρ c (Proc.devRef .tc main_v37) = cacheK (m ((c : Thread nD τ).loc main_arg0)) (m ((c : Thread nD τ).loc main_arg1)) (m ((c : Thread nD τ).loc main_arg2)) (m ((c : Thread nD τ).loc main_arg3))
      (m ((c : Thread nD τ).loc main_arg4)) := by
  rw [result_keys, keys_first, keys_second, keys_third, left_first, left_second, left_third, left_fourth]
  exact stacked_keys ..

/-- The program's values are the reference's. -/
theorem final_values (c : Dev nD) : W9 m ρ c (Proc.devRef .tc main_v43) = cacheV (m ((c : Thread nD τ).loc main_arg0)) (m ((c : Thread nD τ).loc main_arg1)) (m ((c : Thread nD τ).loc main_arg2)) (m ((c : Thread nD τ).loc main_arg3))
      (m ((c : Thread nD τ).loc main_arg4)) := by
  rw [result_values, values_first, values_second, values_third, left_first, left_second, left_third, left_fourth]
  exact stacked_values ..

/-- The program ends with the reference's two caches in its results and its arguments unchanged. -/
theorem run : θ_run defs (onTc (τ := τ) (main (F := Ideal))) ⟨m, fun _ => 0, ρ⟩ fun r => ∀ c : Dev nD,
    r.2.mem ((c : Thread nD τ).loc main_v37) = cacheK (m ((c : Thread nD τ).loc main_arg0)) (m ((c : Thread nD τ).loc main_arg1)) (m ((c : Thread nD τ).loc main_arg2)) (m ((c : Thread nD τ).loc main_arg3))
      (m ((c : Thread nD τ).loc main_arg4))
    ∧ r.2.mem ((c : Thread nD τ).loc main_v43) = cacheV (m ((c : Thread nD τ).loc main_arg0)) (m ((c : Thread nD τ).loc main_arg1)) (m ((c : Thread nD τ).loc main_arg2)) (m ((c : Thread nD τ).loc main_arg3))
      (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c =>
    ⟨(h c _ (mem_uc main_v37 (by decide))).trans (final_keys m ρ c), (h c _ (mem_uc main_v43 (by decide))).trans (final_values m ρ c),
      (h c _ (mem_uc main_arg0 (by decide))).trans (W9_main_arg0 m ρ c), (h c _ (mem_uc main_arg1 (by decide))).trans (W9_main_arg1 m ρ c),
      (h c _ (mem_uc main_arg2 (by decide))).trans (W9_main_arg2 m ρ c), (h c _ (mem_uc main_arg3 (by decide))).trans (W9_main_arg3 m ρ c),
      (h c _ (mem_uc main_arg4 (by decide))).trans (W9_main_arg4 m ρ c)⟩) (CachesRun.run m ρ)

end Cert.Proof.CachesValue

end
-- ==== Proof.OutValue.lean ====
/-
  The output projection: the array the pipelined kernel leaves is the residual stream plus the gated product.
-/
module

public import proofs.«01_k».proof.Proof.Gen.KernelOutIdeal.Value
public import proofs.«01_k».proof.Proof.Gen.ReferenceOutIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.OutValue

open Cert.KernelOutIdeal Cert.KernelOutIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its four arguments: the residual stream plus the gated product, the context
    rows gated by row 0 of the modulation table and each latent sequence by its own row. -/
abbrev residual (a0 : FVec Ideal Cert.ReferenceOutIdeal.S16384x4096 .bf16) (a1 : FVec Ideal Cert.ReferenceOutIdeal.S4096x4096 .f32)
    (a2 : FVec Ideal Cert.ReferenceOutIdeal.S16384x4096 .f32) (a3 : FVec Ideal Cert.ReferenceOutIdeal.S16x6x1x4096 .f32) :
    FVec Ideal Cert.ReferenceOutIdeal.S16384x4096 .f32 :=
  concatenate Cert.ReferenceOutIdeal.S16384x4096 0 [⟨Cert.ReferenceOutIdeal.S8192x4096, (shapeCast _ (addf (shapeCast _ (extractStridedSlice Cert.ReferenceOutIdeal.S8192x4096 ![0, 0] a2 Cert.ReferenceOutIdeal.Gen.slices_S16384x4096_S8192x4096_0_0) Cert.ReferenceOutIdeal.Gen.shapeCasts_S8192x4096_S32x256x4096) (mulf (broadcastInDim Cert.ReferenceOutIdeal.S32x256x4096 ![0, 1, 2] Cert.ReferenceOutIdeal.Gen.bcast_S1x1x4096_S32x256x4096_0_1_2 (extractStridedSlice Cert.ReferenceOutIdeal.S1x1x4096 ![0, 0, 0] (shapeCast _ (extractStridedSlice Cert.ReferenceOutIdeal.S16x1x1x4096 ![0, 2, 0, 0] a3 Cert.ReferenceOutIdeal.Gen.slices_S16x6x1x4096_S16x1x1x4096_0_2_0_0) Cert.ReferenceOutIdeal.Gen.shapeCasts_S16x1x1x4096_S16x1x4096) Cert.ReferenceOutIdeal.Gen.slices_S16x1x4096_S1x1x4096_0_0_0)) (shapeCast _ (extractStridedSlice Cert.ReferenceOutIdeal.S8192x4096 ![0, 0] (Host.dotGeneral Cert.ReferenceOutIdeal.dot_S16384x4096_S4096x4096_S16384x4096_1_0_0_1_n_n none (extf .f32 a0 Cert.ReferenceOutIdeal.Gen.bitsLt_bf16_f32) a1) Cert.ReferenceOutIdeal.Gen.slices_S16384x4096_S8192x4096_0_0) Cert.ReferenceOutIdeal.Gen.shapeCasts_S8192x4096_S32x256x4096))) Cert.ReferenceOutIdeal.Gen.shapeCasts_S32x256x4096_S8192x4096)⟩,
    ⟨Cert.ReferenceOutIdeal.S8192x4096, (shapeCast _ (addf (shapeCast _ (extractStridedSlice Cert.ReferenceOutIdeal.S8192x4096 ![8192, 0] a2 Cert.ReferenceOutIdeal.Gen.slices_S16384x4096_S8192x4096_8192_0) Cert.ReferenceOutIdeal.Gen.shapeCasts_S8192x4096_S8x1024x4096) (mulf (broadcastInDim Cert.ReferenceOutIdeal.S8x1024x4096 ![0, 1, 2] Cert.ReferenceOutIdeal.Gen.bcast_S8x1x4096_S8x1024x4096_0_1_2 (extractStridedSlice Cert.ReferenceOutIdeal.S8x1x4096 ![1, 0, 0] (shapeCast _ (extractStridedSlice Cert.ReferenceOutIdeal.S16x1x1x4096 ![0, 2, 0, 0] a3 Cert.ReferenceOutIdeal.Gen.slices_S16x6x1x4096_S16x1x1x4096_0_2_0_0) Cert.ReferenceOutIdeal.Gen.shapeCasts_S16x1x1x4096_S16x1x4096) Cert.ReferenceOutIdeal.Gen.slices_S16x1x4096_S8x1x4096_1_0_0)) (shapeCast _ (extractStridedSlice Cert.ReferenceOutIdeal.S8192x4096 ![8192, 0] (Host.dotGeneral Cert.ReferenceOutIdeal.dot_S16384x4096_S4096x4096_S16384x4096_1_0_0_1_n_n none (extf .f32 a0 Cert.ReferenceOutIdeal.Gen.bitsLt_bf16_f32) a1) Cert.ReferenceOutIdeal.Gen.slices_S16384x4096_S8192x4096_8192_0) Cert.ReferenceOutIdeal.Gen.shapeCasts_S8192x4096_S8x1024x4096))) Cert.ReferenceOutIdeal.Gen.shapeCasts_S8x1024x4096_S8192x4096)⟩] Cert.ReferenceOutIdeal.Gen.concatenates_S8192x4096_S8192x4096_S16384x4096_d0

/-- The blocks of a grid point: a band of rows, a band of columns, their tile, and the gate row of the band's sequence. -/
theorem idx : ∀ t : Fin cfg0.N, win0_0.index t = ![t.val / 4, 0] ∧ win0_1.index t = ![0, t.val % 4]
    ∧ win0_2.index t = ![t.val / 4, t.val % 4]
    ∧ win0_3.index t = ![if t.val / 4 < 8 then 0 else t.val / 4 - 7, 2, 0, t.val % 4]
    ∧ win0_4.index t = ![t.val / 4, t.val % 4] :=
  (by decide +kernel : ∀ t : Fin grid0.N, _)

/-- One entry of the tile a grid point computes is the reference's entry `j`, `j` being the tile's place. -/
theorem core (c : Dev nD) (t : Fin cfg0.N) (y : S1024x1024.Idx) (j : Cert.ReferenceOutIdeal.S16384x4096.Idx)
    (hj0 : (j 0 : ℕ) = t.val / 4 * 1024 + (y 0 : ℕ)) (hj1 : (j 1 : ℕ) = t.val % 4 * 1024 + (y 1 : ℕ)) :
    k0_pay1 (F := Ideal) (iblk m c 2 t) (iblk m c 3 t) (iblk m c 0 t) (iblk m c 1 t) y
      = residual (m ((c : Thread nD τ).loc main_arg0)) (m ((c : Thread nD τ).loc main_arg1))
          (m ((c : Thread nD τ).loc main_arg2)) (m ((c : Thread nD τ).loc main_arg3)) j := by
  pointwise [k0_pay1, residual]
  split
  · rename_i hc
    have hi : t.val / 4 < 8 := by omega
    have ix := idx t
    simp only [hi, if_true] at ix
    blk_point [iblk, V, ix]
  · rename_i hc
    have hy : (y 0 : ℕ) < 1024 := (y 0).isLt
    have hi : ¬ t.val / 4 < 8 := by omega
    have ix := idx t
    simp only [hi, if_false] at ix
    blk_point [iblk, V, ix]

/-- The same at the tile's own place in the result. -/
theorem point (c : Dev nD) (t : Fin cfg0.N) (y) :
    k0_pay1 (F := Ideal) (iblk m c 2 t) (iblk m c 3 t) (iblk m c 0 t) (iblk m c 1 t) y
      = residual (m ((c : Thread nD τ).loc main_arg0)) (m ((c : Thread nD τ).loc main_arg1))
          (m ((c : Thread nD τ).loc main_arg2)) (m ((c : Thread nD τ).loc main_arg3)) (((cfg0.win 4).blk t).view.emb y) := by
  refine core m c t y _ ?_ ?_
  all_goals (blk_simp [idx t] <;> try omega)

/-- The result array after the run is the reference's result. -/
theorem final (c : Dev nD) :
    (dats m 0 c).arrAt 4 (cfgs 0).N
      = residual (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Proof.OutValue

end
-- ==== Proof.AdaValue.lean ====
/-
  The modulation vectors of all layers: the array the kernel leaves is SiLU of the conditioning rows times each layer's matrix plus its bias.
-/
module

public import proofs.«01_k».proof.Proof.Gen.KernelAdaIdeal.Value
public import proofs.«01_k».proof.Proof.Gen.ReferenceAdaIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.AdaValue

open Cert.KernelAdaIdeal Cert.KernelAdaIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its arguments: for each layer, SiLU of the conditioning rows times the layer's
    matrix, plus the layer's bias. -/
abbrev result (a0 : FVec Ideal Cert.ReferenceAdaIdeal.S16x4096 .f32) (a1 : FVec Ideal Cert.ReferenceAdaIdeal.S4x4096x24576 .f32) (a2 : FVec Ideal Cert.ReferenceAdaIdeal.S4x24576 .f32) :
    FVec Ideal Cert.ReferenceAdaIdeal.S4x16x24576 .f32 :=
  (concatenate Cert.ReferenceAdaIdeal.S4x16x24576 0 [⟨Cert.ReferenceAdaIdeal.S1x16x24576, ((broadcastInDim Cert.ReferenceAdaIdeal.S1x16x24576 ![1, 2] Cert.ReferenceAdaIdeal.Gen.bcast_S16x24576_S1x16x24576_1_2 (addf (Host.dotGeneral Cert.ReferenceAdaIdeal.dot_S16x4096_S4096x24576_S16x24576_1_0_0_1_n_n none (mulf a0 (Host.divf (broadcastInDim Cert.ReferenceAdaIdeal.S16x4096 ![] Cert.ReferenceAdaIdeal.Gen.bcast_S_S16x4096 (constant Cert.ReferenceAdaIdeal.S_ .f32 0x3F800000#32)) (addf (broadcastInDim Cert.ReferenceAdaIdeal.S16x4096 ![] Cert.ReferenceAdaIdeal.Gen.bcast_S_S16x4096 (constant Cert.ReferenceAdaIdeal.S_ .f32 0x3F800000#32)) (Host.exp (Host.negf a0))))) (shapeCast _ (extractStridedSlice Cert.ReferenceAdaIdeal.S1x4096x24576 ![0, 0, 0] a1 Cert.ReferenceAdaIdeal.Gen.slices_S4x4096x24576_S1x4096x24576_0_0_0) Cert.ReferenceAdaIdeal.Gen.shapeCasts_S1x4096x24576_S4096x24576)) (broadcastInDim Cert.ReferenceAdaIdeal.S16x24576 ![0, 1] Cert.ReferenceAdaIdeal.Gen.bcast_S1x24576_S16x24576_0_1 (broadcastInDim Cert.ReferenceAdaIdeal.S1x24576 ![1] Cert.ReferenceAdaIdeal.Gen.bcast_S24576_S1x24576_1 (shapeCast _ (extractStridedSlice Cert.ReferenceAdaIdeal.S1x24576 ![0, 0] a2 Cert.ReferenceAdaIdeal.Gen.slices_S4x24576_S1x24576_0_0) Cert.ReferenceAdaIdeal.Gen.shapeCasts_S1x24576_S24576))))) : (⟨Cert.ReferenceAdaIdeal.S1x16x24576, .f32⟩ : BufTy).Contents (Elt Ideal))⟩, ⟨Cert.ReferenceAdaIdeal.S1x16x24576, ((broadcastInDim Cert.ReferenceAdaIdeal.S1x16x24576 ![1, 2] Cert.ReferenceAdaIdeal.Gen.bcast_S16x24576_S1x16x24576_1_2 (addf (Host.dotGeneral Cert.ReferenceAdaIdeal.dot_S16x4096_S4096x24576_S16x24576_1_0_0_1_n_n none (mulf a0 (Host.divf (broadcastInDim Cert.ReferenceAdaIdeal.S16x4096 ![] Cert.ReferenceAdaIdeal.Gen.bcast_S_S16x4096 (constant Cert.ReferenceAdaIdeal.S_ .f32 0x3F800000#32)) (addf (broadcastInDim Cert.ReferenceAdaIdeal.S16x4096 ![] Cert.ReferenceAdaIdeal.Gen.bcast_S_S16x4096 (constant Cert.ReferenceAdaIdeal.S_ .f32 0x3F800000#32)) (Host.exp (Host.negf a0))))) (shapeCast _ (extractStridedSlice Cert.ReferenceAdaIdeal.S1x4096x24576 ![1, 0, 0] a1 Cert.ReferenceAdaIdeal.Gen.slices_S4x4096x24576_S1x4096x24576_1_0_0) Cert.ReferenceAdaIdeal.Gen.shapeCasts_S1x4096x24576_S4096x24576)) (broadcastInDim Cert.ReferenceAdaIdeal.S16x24576 ![0, 1] Cert.ReferenceAdaIdeal.Gen.bcast_S1x24576_S16x24576_0_1 (broadcastInDim Cert.ReferenceAdaIdeal.S1x24576 ![1] Cert.ReferenceAdaIdeal.Gen.bcast_S24576_S1x24576_1 (shapeCast _ (extractStridedSlice Cert.ReferenceAdaIdeal.S1x24576 ![1, 0] a2 Cert.ReferenceAdaIdeal.Gen.slices_S4x24576_S1x24576_1_0) Cert.ReferenceAdaIdeal.Gen.shapeCasts_S1x24576_S24576))))) : (⟨Cert.ReferenceAdaIdeal.S1x16x24576, .f32⟩ : BufTy).Contents (Elt Ideal))⟩, ⟨Cert.ReferenceAdaIdeal.S1x16x24576, ((broadcastInDim Cert.ReferenceAdaIdeal.S1x16x24576 ![1, 2] Cert.ReferenceAdaIdeal.Gen.bcast_S16x24576_S1x16x24576_1_2 (addf (Host.dotGeneral Cert.ReferenceAdaIdeal.dot_S16x4096_S4096x24576_S16x24576_1_0_0_1_n_n none (mulf a0 (Host.divf (broadcastInDim Cert.ReferenceAdaIdeal.S16x4096 ![] Cert.ReferenceAdaIdeal.Gen.bcast_S_S16x4096 (constant Cert.ReferenceAdaIdeal.S_ .f32 0x3F800000#32)) (addf (broadcastInDim Cert.ReferenceAdaIdeal.S16x4096 ![] Cert.ReferenceAdaIdeal.Gen.bcast_S_S16x4096 (constant Cert.ReferenceAdaIdeal.S_ .f32 0x3F800000#32)) (Host.exp (Host.negf a0))))) (shapeCast _ (extractStridedSlice Cert.ReferenceAdaIdeal.S1x4096x24576 ![2, 0, 0] a1 Cert.ReferenceAdaIdeal.Gen.slices_S4x4096x24576_S1x4096x24576_2_0_0) Cert.ReferenceAdaIdeal.Gen.shapeCasts_S1x4096x24576_S4096x24576)) (broadcastInDim Cert.ReferenceAdaIdeal.S16x24576 ![0, 1] Cert.ReferenceAdaIdeal.Gen.bcast_S1x24576_S16x24576_0_1 (broadcastInDim Cert.ReferenceAdaIdeal.S1x24576 ![1] Cert.ReferenceAdaIdeal.Gen.bcast_S24576_S1x24576_1 (shapeCast _ (extractStridedSlice Cert.ReferenceAdaIdeal.S1x24576 ![2, 0] a2 Cert.ReferenceAdaIdeal.Gen.slices_S4x24576_S1x24576_2_0) Cert.ReferenceAdaIdeal.Gen.shapeCasts_S1x24576_S24576))))) : (⟨Cert.ReferenceAdaIdeal.S1x16x24576, .f32⟩ : BufTy).Contents (Elt Ideal))⟩, ⟨Cert.ReferenceAdaIdeal.S1x16x24576, ((broadcastInDim Cert.ReferenceAdaIdeal.S1x16x24576 ![1, 2] Cert.ReferenceAdaIdeal.Gen.bcast_S16x24576_S1x16x24576_1_2 (addf (Host.dotGeneral Cert.ReferenceAdaIdeal.dot_S16x4096_S4096x24576_S16x24576_1_0_0_1_n_n none (mulf a0 (Host.divf (broadcastInDim Cert.ReferenceAdaIdeal.S16x4096 ![] Cert.ReferenceAdaIdeal.Gen.bcast_S_S16x4096 (constant Cert.ReferenceAdaIdeal.S_ .f32 0x3F800000#32)) (addf (broadcastInDim Cert.ReferenceAdaIdeal.S16x4096 ![] Cert.ReferenceAdaIdeal.Gen.bcast_S_S16x4096 (constant Cert.ReferenceAdaIdeal.S_ .f32 0x3F800000#32)) (Host.exp (Host.negf a0))))) (shapeCast _ (extractStridedSlice Cert.ReferenceAdaIdeal.S1x4096x24576 ![3, 0, 0] a1 Cert.ReferenceAdaIdeal.Gen.slices_S4x4096x24576_S1x4096x24576_3_0_0) Cert.ReferenceAdaIdeal.Gen.shapeCasts_S1x4096x24576_S4096x24576)) (broadcastInDim Cert.ReferenceAdaIdeal.S16x24576 ![0, 1] Cert.ReferenceAdaIdeal.Gen.bcast_S1x24576_S16x24576_0_1 (broadcastInDim Cert.ReferenceAdaIdeal.S1x24576 ![1] Cert.ReferenceAdaIdeal.Gen.bcast_S24576_S1x24576_1 (shapeCast _ (extractStridedSlice Cert.ReferenceAdaIdeal.S1x24576 ![3, 0] a2 Cert.ReferenceAdaIdeal.Gen.slices_S4x24576_S1x24576_3_0) Cert.ReferenceAdaIdeal.Gen.shapeCasts_S1x24576_S24576))))) : (⟨Cert.ReferenceAdaIdeal.S1x16x24576, .f32⟩ : BufTy).Contents (Elt Ideal))⟩] Cert.ReferenceAdaIdeal.Gen.concatenates_S1x16x24576_S1x16x24576_S1x16x24576_S1x16x24576_S4x16x24576_d0 : (⟨Cert.ReferenceAdaIdeal.S4x16x24576, .f32⟩ : BufTy).Contents (Elt Ideal))

/-- The blocks of a grid point: all conditioning rows, a band of columns of one layer's matrix and bias, and their tile. -/
theorem idx : ∀ t : Fin cfg0.N, win0_0.index t = ![0, 0] ∧ win0_1.index t = ![t.val / 48, 0, t.val % 48]
    ∧ win0_2.index t = ![t.val / 48, 0, t.val % 48] ∧ win0_3.index t = ![t.val / 48, 0, t.val % 48] :=
  (by decide +kernel : ∀ t : Fin grid0.N, _)

/-- One entry of the tile a grid point computes is the reference's entry `j`, `j` being the tile's place. -/
theorem core (c : Dev nD) (t : Fin cfg0.N) (y : S1x16x512.Idx) (j : Cert.ReferenceAdaIdeal.S4x16x24576.Idx)
    (hj0 : (j 0 : ℕ) = t.val / 48) (hj1 : (j 1 : ℕ) = (y 1 : ℕ)) (hj2 : (j 2 : ℕ) = t.val % 48 * 512 + (y 2 : ℕ)) :
    k0_pay1 (F := Ideal) (iblk m c 0 t) (iblk m c 1 t) (iblk m c 2 t) y
      = result (m ((c : Thread nD τ).loc main_arg0)) (m ((c : Thread nD τ).loc main_arg1)) (m ((c : Thread nD τ).loc main_arg2)) j := by
  pointwise [k0_pay1, result]
  simp only [Ideal.logistic]
  split_ifs <;> blk_point [iblk, V, idx t]

/-- The result array after the run is the reference's result. -/
theorem final (c : Dev nD) :
    (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  refine core m c t y _ ?_ ?_ ?_
  all_goals (blk_simp [idx t] <;> try omega)

end Cert.Proof.AdaValue

end
-- ==== Proof.ModAValue.lean ====
/-
  RMSNorm with modulation: the array the kernel leaves is the normalised rows, scaled and shifted by the modulation row of their sequence.
-/
module

public import proofs.«01_k».proof.Proof.Gen.KernelModAIdeal.Value
public import proofs.«01_k».proof.Proof.Gen.ReferenceModAIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.ModAValue

open Cert.KernelModAIdeal Cert.KernelModAIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its arguments: each row over its root mean square, times the gain, scaled and
    shifted by row 0 of the modulation table for context rows and by its own row for each latent sequence. -/
abbrev result (a0 : FVec Ideal Cert.ReferenceModAIdeal.S16384x4096 .f32) (a1 : FVec Ideal Cert.ReferenceModAIdeal.S4096 .f32) (a2 : FVec Ideal Cert.ReferenceModAIdeal.S16x6x1x4096 .f32) :
    FVec Ideal Cert.ReferenceModAIdeal.S16384x4096 .bf16 :=
  truncf .bf16 (concatenate Cert.ReferenceModAIdeal.S16384x4096 0 [⟨Cert.ReferenceModAIdeal.S8192x4096, (shapeCast _ (addf (mulf (shapeCast _ (extractStridedSlice Cert.ReferenceModAIdeal.S8192x4096 ![0, 0] (mulf (mulf a0 (broadcastInDim Cert.ReferenceModAIdeal.S16384x4096 ![0, 1] Cert.ReferenceModAIdeal.Gen.bcast_S16384x1_S16384x4096_0_1 (Host.rsqrt (addf (Host.divf (broadcastInDim Cert.ReferenceModAIdeal.S16384x1 ![0] Cert.ReferenceModAIdeal.Gen.bcast_S16384_S16384x1_0 (Host.reduceAdd (mulf a0 a0) (constant Cert.ReferenceModAIdeal.S_ .f32 0x00000000#32) Cert.ReferenceModAIdeal.Gen.reducesTo_S16384x4096_S16384_d1 Cert.ReferenceModAIdeal.Gen.h_S_)) (broadcastInDim Cert.ReferenceModAIdeal.S16384x1 ![] Cert.ReferenceModAIdeal.Gen.bcast_S_S16384x1 (constant Cert.ReferenceModAIdeal.S_ .f32 0x45800000#32))) (broadcastInDim Cert.ReferenceModAIdeal.S16384x1 ![] Cert.ReferenceModAIdeal.Gen.bcast_S_S16384x1 (constant Cert.ReferenceModAIdeal.S_ .f32 0x358637BD#32)))))) (broadcastInDim Cert.ReferenceModAIdeal.S16384x4096 ![0, 1] Cert.ReferenceModAIdeal.Gen.bcast_S1x4096_S16384x4096_0_1 (broadcastInDim Cert.ReferenceModAIdeal.S1x4096 ![1] Cert.ReferenceModAIdeal.Gen.bcast_S4096_S1x4096_1 a1))) Cert.ReferenceModAIdeal.Gen.slices_S16384x4096_S8192x4096_0_0) Cert.ReferenceModAIdeal.Gen.shapeCasts_S8192x4096_S32x256x4096) (broadcastInDim Cert.ReferenceModAIdeal.S32x256x4096 ![0, 1, 2] Cert.ReferenceModAIdeal.Gen.bcast_S1x1x4096_S32x256x4096_0_1_2 (addf (broadcastInDim Cert.ReferenceModAIdeal.S1x1x4096 ![] Cert.ReferenceModAIdeal.Gen.bcast_S_S1x1x4096 (constant Cert.ReferenceModAIdeal.S_ .f32 0x3F800000#32)) (extractStridedSlice Cert.ReferenceModAIdeal.S1x1x4096 ![0, 0, 0] (shapeCast _ (extractStridedSlice Cert.ReferenceModAIdeal.S16x1x1x4096 ![0, 1, 0, 0] a2 Cert.ReferenceModAIdeal.Gen.slices_S16x6x1x4096_S16x1x1x4096_0_1_0_0) Cert.ReferenceModAIdeal.Gen.shapeCasts_S16x1x1x4096_S16x1x4096) Cert.ReferenceModAIdeal.Gen.slices_S16x1x4096_S1x1x4096_0_0_0)))) (broadcastInDim Cert.ReferenceModAIdeal.S32x256x4096 ![0, 1, 2] Cert.ReferenceModAIdeal.Gen.bcast_S1x1x4096_S32x256x4096_0_1_2 (extractStridedSlice Cert.ReferenceModAIdeal.S1x1x4096 ![0, 0, 0] (shapeCast _ (extractStridedSlice Cert.ReferenceModAIdeal.S16x1x1x4096 ![0, 0, 0, 0] a2 Cert.ReferenceModAIdeal.Gen.slices_S16x6x1x4096_S16x1x1x4096_0_0_0_0) Cert.ReferenceModAIdeal.Gen.shapeCasts_S16x1x1x4096_S16x1x4096) Cert.ReferenceModAIdeal.Gen.slices_S16x1x4096_S1x1x4096_0_0_0))) Cert.ReferenceModAIdeal.Gen.shapeCasts_S32x256x4096_S8192x4096)⟩, ⟨Cert.ReferenceModAIdeal.S8192x4096, (shapeCast _ (addf (mulf (shapeCast _ (extractStridedSlice Cert.ReferenceModAIdeal.S8192x4096 ![8192, 0] (mulf (mulf a0 (broadcastInDim Cert.ReferenceModAIdeal.S16384x4096 ![0, 1] Cert.ReferenceModAIdeal.Gen.bcast_S16384x1_S16384x4096_0_1 (Host.rsqrt (addf (Host.divf (broadcastInDim Cert.ReferenceModAIdeal.S16384x1 ![0] Cert.ReferenceModAIdeal.Gen.bcast_S16384_S16384x1_0 (Host.reduceAdd (mulf a0 a0) (constant Cert.ReferenceModAIdeal.S_ .f32 0x00000000#32) Cert.ReferenceModAIdeal.Gen.reducesTo_S16384x4096_S16384_d1 Cert.ReferenceModAIdeal.Gen.h_S_)) (broadcastInDim Cert.ReferenceModAIdeal.S16384x1 ![] Cert.ReferenceModAIdeal.Gen.bcast_S_S16384x1 (constant Cert.ReferenceModAIdeal.S_ .f32 0x45800000#32))) (broadcastInDim Cert.ReferenceModAIdeal.S16384x1 ![] Cert.ReferenceModAIdeal.Gen.bcast_S_S16384x1 (constant Cert.ReferenceModAIdeal.S_ .f32 0x358637BD#32)))))) (broadcastInDim Cert.ReferenceModAIdeal.S16384x4096 ![0, 1] Cert.ReferenceModAIdeal.Gen.bcast_S1x4096_S16384x4096_0_1 (broadcastInDim Cert.ReferenceModAIdeal.S1x4096 ![1] Cert.ReferenceModAIdeal.Gen.bcast_S4096_S1x4096_1 a1))) Cert.ReferenceModAIdeal.Gen.slices_S16384x4096_S8192x4096_8192_0) Cert.ReferenceModAIdeal.Gen.shapeCasts_S8192x4096_S8x1024x4096) (broadcastInDim Cert.ReferenceModAIdeal.S8x1024x4096 ![0, 1, 2] Cert.ReferenceModAIdeal.Gen.bcast_S8x1x4096_S8x1024x4096_0_1_2 (addf (broadcastInDim Cert.ReferenceModAIdeal.S8x1x4096 ![] Cert.ReferenceModAIdeal.Gen.bcast_S_S8x1x4096 (constant Cert.ReferenceModAIdeal.S_ .f32 0x3F800000#32)) (extractStridedSlice Cert.ReferenceModAIdeal.S8x1x4096 ![1, 0, 0] (shapeCast _ (extractStridedSlice Cert.ReferenceModAIdeal.S16x1x1x4096 ![0, 1, 0, 0] a2 Cert.ReferenceModAIdeal.Gen.slices_S16x6x1x4096_S16x1x1x4096_0_1_0_0) Cert.ReferenceModAIdeal.Gen.shapeCasts_S16x1x1x4096_S16x1x4096) Cert.ReferenceModAIdeal.Gen.slices_S16x1x4096_S8x1x4096_1_0_0)))) (broadcastInDim Cert.ReferenceModAIdeal.S8x1024x4096 ![0, 1, 2] Cert.ReferenceModAIdeal.Gen.bcast_S8x1x4096_S8x1024x4096_0_1_2 (extractStridedSlice Cert.ReferenceModAIdeal.S8x1x4096 ![1, 0, 0] (shapeCast _ (extractStridedSlice Cert.ReferenceModAIdeal.S16x1x1x4096 ![0, 0, 0, 0] a2 Cert.ReferenceModAIdeal.Gen.slices_S16x6x1x4096_S16x1x1x4096_0_0_0_0) Cert.ReferenceModAIdeal.Gen.shapeCasts_S16x1x1x4096_S16x1x4096) Cert.ReferenceModAIdeal.Gen.slices_S16x1x4096_S8x1x4096_1_0_0))) Cert.ReferenceModAIdeal.Gen.shapeCasts_S8x1024x4096_S8192x4096)⟩] Cert.ReferenceModAIdeal.Gen.concatenates_S8192x4096_S8192x4096_S16384x4096_d0) Cert.ReferenceModAIdeal.Gen.bitsLt_bf16_f32

/-- The blocks of a grid point: a band of rows, the whole gain, the scale and the shift of the band's sequence, and the
    band of the result. -/
theorem idx : ∀ t : Fin cfg0.N, win0_0.index t = ![t.val, 0] ∧ win0_1.index t = ![0, 0]
    ∧ win0_2.index t = ![if t.val < 32 then 0 else t.val / 4 - 7, 1, 0, 0]
    ∧ win0_3.index t = ![if t.val < 32 then 0 else t.val / 4 - 7, 0, 0, 0]
    ∧ win0_4.index t = ![t.val, 0] :=
  (by decide +kernel : ∀ t : Fin grid0.N, _)

/-- One entry of the band a grid point computes is the reference's entry `j`, `j` being the band's place. -/
theorem core (c : Dev nD) (t : Fin cfg0.N) (y : S256x4096.Idx) (j : Cert.ReferenceModAIdeal.S16384x4096.Idx)
    (hj0 : (j 0 : ℕ) = t.val * 256 + (y 0 : ℕ)) (hj1 : (j 1 : ℕ) = (y 1 : ℕ)) :
    k0_pay1 (F := Ideal) (iblk m c 0 t) (iblk m c 1 t) (iblk m c 2 t) (iblk m c 3 t) y
      = result (m ((c : Thread nD τ).loc main_arg0)) (m ((c : Thread nD τ).loc main_arg1)) (m ((c : Thread nD τ).loc main_arg2)) j := by
  pointwise [k0_pay1, result]
  split
  · rename_i hc
    have hi : t.val < 32 := by omega
    have ix := idx t
    simp only [hi, if_true] at ix
    blk_point [iblk, V, ix]
  · rename_i hc
    have hy : (y 0 : ℕ) < 256 := (y 0).isLt
    have hi : ¬ t.val < 32 := by omega
    have ix := idx t
    simp only [hi, if_false] at ix
    blk_point [iblk, V, ix]

/-- The result array after the run is the reference's result. -/
theorem final (c : Dev nD) :
    (dats m 0 c).arrAt 4 (cfgs 0).N = result (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine core m c t y _ ?_ ?_
  all_goals (blk_simp [idx t] <;> try omega)

end Cert.Proof.ModAValue

end
-- ==== Proof.ModBValue.lean ====
/-
  RMSNorm with modulation: the array the kernel leaves is the normalised rows, scaled and shifted by the modulation row of their sequence.
-/
module

public import proofs.«01_k».proof.Proof.Gen.KernelModBIdeal.Value
public import proofs.«01_k».proof.Proof.Gen.ReferenceModBIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.ModBValue

open Cert.KernelModBIdeal Cert.KernelModBIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its arguments: each row over its root mean square, times the gain, scaled and
    shifted by row 0 of the modulation table for context rows and by its own row for each latent sequence. -/
abbrev result (a0 : FVec Ideal Cert.ReferenceModBIdeal.S16384x4096 .f32) (a1 : FVec Ideal Cert.ReferenceModBIdeal.S4096 .f32) (a2 : FVec Ideal Cert.ReferenceModBIdeal.S16x6x1x4096 .f32) :
    FVec Ideal Cert.ReferenceModBIdeal.S16384x4096 .bf16 :=
  truncf .bf16 (concatenate Cert.ReferenceModBIdeal.S16384x4096 0 [⟨Cert.ReferenceModBIdeal.S8192x4096, (shapeCast _ (addf (mulf (shapeCast _ (extractStridedSlice Cert.ReferenceModBIdeal.S8192x4096 ![0, 0] (mulf (mulf a0 (broadcastInDim Cert.ReferenceModBIdeal.S16384x4096 ![0, 1] Cert.ReferenceModBIdeal.Gen.bcast_S16384x1_S16384x4096_0_1 (Host.rsqrt (addf (Host.divf (broadcastInDim Cert.ReferenceModBIdeal.S16384x1 ![0] Cert.ReferenceModBIdeal.Gen.bcast_S16384_S16384x1_0 (Host.reduceAdd (mulf a0 a0) (constant Cert.ReferenceModBIdeal.S_ .f32 0x00000000#32) Cert.ReferenceModBIdeal.Gen.reducesTo_S16384x4096_S16384_d1 Cert.ReferenceModBIdeal.Gen.h_S_)) (broadcastInDim Cert.ReferenceModBIdeal.S16384x1 ![] Cert.ReferenceModBIdeal.Gen.bcast_S_S16384x1 (constant Cert.ReferenceModBIdeal.S_ .f32 0x45800000#32))) (broadcastInDim Cert.ReferenceModBIdeal.S16384x1 ![] Cert.ReferenceModBIdeal.Gen.bcast_S_S16384x1 (constant Cert.ReferenceModBIdeal.S_ .f32 0x358637BD#32)))))) (broadcastInDim Cert.ReferenceModBIdeal.S16384x4096 ![0, 1] Cert.ReferenceModBIdeal.Gen.bcast_S1x4096_S16384x4096_0_1 (broadcastInDim Cert.ReferenceModBIdeal.S1x4096 ![1] Cert.ReferenceModBIdeal.Gen.bcast_S4096_S1x4096_1 a1))) Cert.ReferenceModBIdeal.Gen.slices_S16384x4096_S8192x4096_0_0) Cert.ReferenceModBIdeal.Gen.shapeCasts_S8192x4096_S32x256x4096) (broadcastInDim Cert.ReferenceModBIdeal.S32x256x4096 ![0, 1, 2] Cert.ReferenceModBIdeal.Gen.bcast_S1x1x4096_S32x256x4096_0_1_2 (addf (broadcastInDim Cert.ReferenceModBIdeal.S1x1x4096 ![] Cert.ReferenceModBIdeal.Gen.bcast_S_S1x1x4096 (constant Cert.ReferenceModBIdeal.S_ .f32 0x3F800000#32)) (extractStridedSlice Cert.ReferenceModBIdeal.S1x1x4096 ![0, 0, 0] (shapeCast _ (extractStridedSlice Cert.ReferenceModBIdeal.S16x1x1x4096 ![0, 4, 0, 0] a2 Cert.ReferenceModBIdeal.Gen.slices_S16x6x1x4096_S16x1x1x4096_0_4_0_0) Cert.ReferenceModBIdeal.Gen.shapeCasts_S16x1x1x4096_S16x1x4096) Cert.ReferenceModBIdeal.Gen.slices_S16x1x4096_S1x1x4096_0_0_0)))) (broadcastInDim Cert.ReferenceModBIdeal.S32x256x4096 ![0, 1, 2] Cert.ReferenceModBIdeal.Gen.bcast_S1x1x4096_S32x256x4096_0_1_2 (extractStridedSlice Cert.ReferenceModBIdeal.S1x1x4096 ![0, 0, 0] (shapeCast _ (extractStridedSlice Cert.ReferenceModBIdeal.S16x1x1x4096 ![0, 3, 0, 0] a2 Cert.ReferenceModBIdeal.Gen.slices_S16x6x1x4096_S16x1x1x4096_0_3_0_0) Cert.ReferenceModBIdeal.Gen.shapeCasts_S16x1x1x4096_S16x1x4096) Cert.ReferenceModBIdeal.Gen.slices_S16x1x4096_S1x1x4096_0_0_0))) Cert.ReferenceModBIdeal.Gen.shapeCasts_S32x256x4096_S8192x4096)⟩, ⟨Cert.ReferenceModBIdeal.S8192x4096, (shapeCast _ (addf (mulf (shapeCast _ (extractStridedSlice Cert.ReferenceModBIdeal.S8192x4096 ![8192, 0] (mulf (mulf a0 (broadcastInDim Cert.ReferenceModBIdeal.S16384x4096 ![0, 1] Cert.ReferenceModBIdeal.Gen.bcast_S16384x1_S16384x4096_0_1 (Host.rsqrt (addf (Host.divf (broadcastInDim Cert.ReferenceModBIdeal.S16384x1 ![0] Cert.ReferenceModBIdeal.Gen.bcast_S16384_S16384x1_0 (Host.reduceAdd (mulf a0 a0) (constant Cert.ReferenceModBIdeal.S_ .f32 0x00000000#32) Cert.ReferenceModBIdeal.Gen.reducesTo_S16384x4096_S16384_d1 Cert.ReferenceModBIdeal.Gen.h_S_)) (broadcastInDim Cert.ReferenceModBIdeal.S16384x1 ![] Cert.ReferenceModBIdeal.Gen.bcast_S_S16384x1 (constant Cert.ReferenceModBIdeal.S_ .f32 0x45800000#32))) (broadcastInDim Cert.ReferenceModBIdeal.S16384x1 ![] Cert.ReferenceModBIdeal.Gen.bcast_S_S16384x1 (constant Cert.ReferenceModBIdeal.S_ .f32 0x358637BD#32)))))) (broadcastInDim Cert.ReferenceModBIdeal.S16384x4096 ![0, 1] Cert.ReferenceModBIdeal.Gen.bcast_S1x4096_S16384x4096_0_1 (broadcastInDim Cert.ReferenceModBIdeal.S1x4096 ![1] Cert.ReferenceModBIdeal.Gen.bcast_S4096_S1x4096_1 a1))) Cert.ReferenceModBIdeal.Gen.slices_S16384x4096_S8192x4096_8192_0) Cert.ReferenceModBIdeal.Gen.shapeCasts_S8192x4096_S8x1024x4096) (broadcastInDim Cert.ReferenceModBIdeal.S8x1024x4096 ![0, 1, 2] Cert.ReferenceModBIdeal.Gen.bcast_S8x1x4096_S8x1024x4096_0_1_2 (addf (broadcastInDim Cert.ReferenceModBIdeal.S8x1x4096 ![] Cert.ReferenceModBIdeal.Gen.bcast_S_S8x1x4096 (constant Cert.ReferenceModBIdeal.S_ .f32 0x3F800000#32)) (extractStridedSlice Cert.ReferenceModBIdeal.S8x1x4096 ![1, 0, 0] (shapeCast _ (extractStridedSlice Cert.ReferenceModBIdeal.S16x1x1x4096 ![0, 4, 0, 0] a2 Cert.ReferenceModBIdeal.Gen.slices_S16x6x1x4096_S16x1x1x4096_0_4_0_0) Cert.ReferenceModBIdeal.Gen.shapeCasts_S16x1x1x4096_S16x1x4096) Cert.ReferenceModBIdeal.Gen.slices_S16x1x4096_S8x1x4096_1_0_0)))) (broadcastInDim Cert.ReferenceModBIdeal.S8x1024x4096 ![0, 1, 2] Cert.ReferenceModBIdeal.Gen.bcast_S8x1x4096_S8x1024x4096_0_1_2 (extractStridedSlice Cert.ReferenceModBIdeal.S8x1x4096 ![1, 0, 0] (shapeCast _ (extractStridedSlice Cert.ReferenceModBIdeal.S16x1x1x4096 ![0, 3, 0, 0] a2 Cert.ReferenceModBIdeal.Gen.slices_S16x6x1x4096_S16x1x1x4096_0_3_0_0) Cert.ReferenceModBIdeal.Gen.shapeCasts_S16x1x1x4096_S16x1x4096) Cert.ReferenceModBIdeal.Gen.slices_S16x1x4096_S8x1x4096_1_0_0))) Cert.ReferenceModBIdeal.Gen.shapeCasts_S8x1024x4096_S8192x4096)⟩] Cert.ReferenceModBIdeal.Gen.concatenates_S8192x4096_S8192x4096_S16384x4096_d0) Cert.ReferenceModBIdeal.Gen.bitsLt_bf16_f32

/-- The blocks of a grid point: a band of rows, the whole gain, the scale and the shift of the band's sequence, and the
    band of the result. -/
theorem idx : ∀ t : Fin cfg0.N, win0_0.index t = ![t.val, 0] ∧ win0_1.index t = ![0, 0]
    ∧ win0_2.index t = ![if t.val < 32 then 0 else t.val / 4 - 7, 4, 0, 0]
    ∧ win0_3.index t = ![if t.val < 32 then 0 else t.val / 4 - 7, 3, 0, 0]
    ∧ win0_4.index t = ![t.val, 0] :=
  (by decide +kernel : ∀ t : Fin grid0.N, _)

/-- One entry of the band a grid point computes is the reference's entry `j`, `j` being the band's place. -/
theorem core (c : Dev nD) (t : Fin cfg0.N) (y : S256x4096.Idx) (j : Cert.ReferenceModBIdeal.S16384x4096.Idx)
    (hj0 : (j 0 : ℕ) = t.val * 256 + (y 0 : ℕ)) (hj1 : (j 1 : ℕ) = (y 1 : ℕ)) :
    k0_pay1 (F := Ideal) (iblk m c 0 t) (iblk m c 1 t) (iblk m c 2 t) (iblk m c 3 t) y
      = result (m ((c : Thread nD τ).loc main_arg0)) (m ((c : Thread nD τ).loc main_arg1)) (m ((c : Thread nD τ).loc main_arg2)) j := by
  pointwise [k0_pay1, result]
  split
  · rename_i hc
    have hi : t.val < 32 := by omega
    have ix := idx t
    simp only [hi, if_true] at ix
    blk_point [iblk, V, ix]
  · rename_i hc
    have hy : (y 0 : ℕ) < 256 := (y 0).isLt
    have hi : ¬ t.val < 32 := by omega
    have ix := idx t
    simp only [hi, if_false] at ix
    blk_point [iblk, V, ix]

/-- The result array after the run is the reference's result. -/
theorem final (c : Dev nD) :
    (dats m 0 c).arrAt 4 (cfgs 0).N = result (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine core m c t y _ ?_ ?_
  all_goals (blk_simp [idx t] <;> try omega)

end Cert.Proof.ModBValue

end
-- ==== Proof.PromptValue.lean ====
/-
  The final RMSNorm of one group of tokens: the array the kernel leaves is the normalised rows times the gain.
-/
module

public import proofs.«01_k».proof.Proof.Gen.KernelPromptIdeal.Frame
public import proofs.«01_k».proof.Proof.Gen.ReferencePromptIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.PromptValue

open Cert.KernelPromptIdeal Cert.KernelPromptIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its arguments: the group's rows, each over its root mean square, times the gain. -/
abbrev result (a0 : FVec Ideal Cert.ReferencePromptIdeal.S16384x4096 .f32) (a1 : FVec Ideal Cert.ReferencePromptIdeal.S4096 .f32) :
    FVec Ideal Cert.ReferencePromptIdeal.S32x256x4096 .f32 :=
  mulf (mulf (shapeCast _ (extractStridedSlice Cert.ReferencePromptIdeal.S8192x4096 ![0, 0] a0 Cert.ReferencePromptIdeal.Gen.slices_S16384x4096_S8192x4096_0_0) Cert.ReferencePromptIdeal.Gen.shapeCasts_S8192x4096_S32x256x4096) (broadcastInDim Cert.ReferencePromptIdeal.S32x256x4096 ![0, 1, 2] Cert.ReferencePromptIdeal.Gen.bcast_S32x256x1_S32x256x4096_0_1_2 (Host.rsqrt (addf (Host.divf (broadcastInDim Cert.ReferencePromptIdeal.S32x256x1 ![0, 1] Cert.ReferencePromptIdeal.Gen.bcast_S32x256_S32x256x1_0_1 (Host.reduceAdd (mulf (shapeCast _ (extractStridedSlice Cert.ReferencePromptIdeal.S8192x4096 ![0, 0] a0 Cert.ReferencePromptIdeal.Gen.slices_S16384x4096_S8192x4096_0_0) Cert.ReferencePromptIdeal.Gen.shapeCasts_S8192x4096_S32x256x4096) (shapeCast _ (extractStridedSlice Cert.ReferencePromptIdeal.S8192x4096 ![0, 0] a0 Cert.ReferencePromptIdeal.Gen.slices_S16384x4096_S8192x4096_0_0) Cert.ReferencePromptIdeal.Gen.shapeCasts_S8192x4096_S32x256x4096)) (constant Cert.ReferencePromptIdeal.S_ .f32 0x00000000#32) Cert.ReferencePromptIdeal.Gen.reducesTo_S32x256x4096_S32x256_d2 Cert.ReferencePromptIdeal.Gen.h_S_)) (broadcastInDim Cert.ReferencePromptIdeal.S32x256x1 ![] Cert.ReferencePromptIdeal.Gen.bcast_S_S32x256x1 (constant Cert.ReferencePromptIdeal.S_ .f32 0x45800000#32))) (broadcastInDim Cert.ReferencePromptIdeal.S32x256x1 ![] Cert.ReferencePromptIdeal.Gen.bcast_S_S32x256x1 (constant Cert.ReferencePromptIdeal.S_ .f32 0x358637BD#32)))))) (broadcastInDim Cert.ReferencePromptIdeal.S32x256x4096 ![0, 1, 2] Cert.ReferencePromptIdeal.Gen.bcast_S1x1x4096_S32x256x4096_0_1_2 (broadcastInDim Cert.ReferencePromptIdeal.S1x1x4096 ![2] Cert.ReferencePromptIdeal.Gen.bcast_S4096_S1x1x4096_2 a1))

/-- The blocks of a grid point: a band of rows of the residual stream, the whole gain, and a band of the result. -/
theorem idx : ∀ t : Fin cfg0.N, win0_0.index t = ![t.val, 0] ∧ win0_1.index t = ![0, 0] ∧ win0_2.index t = ![t.val, 0] :=
  (by decide +kernel : ∀ t : Fin grid0.N, _)

/-- The gain as the kernel reads it is the argument, laid out as one row. -/
theorem gain (c : Dev nD) :
    V m c main_v0 = shapeCast S1x4096 (m ((c : Thread nD τ).loc main_arg1)) shapeCasts_S4096_S1x4096 := by
  show StableHlo.after hostOps0 (fun b => m (c, b)) (Proc.devRef .tc main_v0) = _
  after_results
  rfl

/-- A list laid out as one row has the list's entry in each column. -/
theorem row_at (v : FVec Ideal S4096 .f32) (h : S4096.ShapeCasts S1x4096) (k : S1x4096.Idx) :
    shapeCast S1x4096 v h k = v (ix1 (k 1)) := by
  pointwise

/-- The same, entry by entry. -/
theorem gain_at (c : Dev nD) (k : S1x4096.Idx) : V m c main_v0 k = m ((c : Thread nD τ).loc main_arg1) (ix1 (k 1)) := by
  rw [gain]
  exact row_at _ _ _

/-- One entry of the band a grid point computes is the reference's entry at the band's place. -/
theorem core (c : Dev nD) (t : Fin cfg0.N) (y : S256x4096.Idx) (j : S8192x4096.Idx)
    (hj0 : (j 0 : ℕ) = t.val * 256 + (y 0 : ℕ)) (hj1 : (j 1 : ℕ) = (y 1 : ℕ)) :
    k0_pay1 (F := Ideal) (iblk m c 0 t) (iblk m c 1 t) y
      = shapeCast S8192x4096 (result (m ((c : Thread nD τ).loc main_arg0)) (m ((c : Thread nD τ).loc main_arg1))) (by decide) j := by
  pointwise [k0_pay1, result]
  blk_point [iblk, V_main_arg0 m c, idx t]
  exact (gain_at m c _).trans (by blk_ext [idx t])

/-- The kernel's array after the run is the reference's result with its rows in one list. -/
theorem flat (c : Dev nD) :
    (dats m 0 c).arrAt 2 (cfgs 0).N = shapeCast S8192x4096 (result (m ((c : Thread nD τ).loc main_arg0)) (m ((c : Thread nD τ).loc main_arg1))) (by decide) := by
  refine (dats m 0 c).arrAt_eq_of_covers 2 _ (by decide +kernel) fun t _ y => ?_
  blk_simp
  rw [after0_2]; frame_out
  refine core m c t y _ ?_ ?_
  all_goals (blk_simp [idx t] <;> try omega)

/-- The kernel's result, its rows sorted into sequences, is the reference's result. -/
theorem final (c : Dev nD) (h : S8192x4096.ShapeCasts S32x256x4096) :
    shapeCast S32x256x4096 ((dats m 0 c).arrAt 2 (cfgs 0).N) h = result (m ((c : Thread nD τ).loc main_arg0)) (m ((c : Thread nD τ).loc main_arg1)) := by
  rw [flat m c]
  exact shapeCast_shapeCast _ _ _

/-- What the reshape after the kernel leaves is the reference's result. -/
theorem tail (c : Dev nD) :
    Pipeline.afterTail₀ cfgs (dats m) 0 (V0 m) [hostOps1] c main_v2 = result (m ((c : Thread nD τ).loc main_arg0)) (m ((c : Thread nD τ).loc main_arg1)) := by
  unfold Pipeline.afterTail₀
  show StableHlo.after hostOps1 _ (Proc.devRef .tc main_v2) = _
  after_results
  refine Eq.trans ?_ (final m c shapeCasts_S8192x4096_S32x256x4096)
  have h := Pipeline.withArrays_arr (cfgs 0).spec (by decide) c (V0 m c) (fun w => (dats m 0 c).arrAt w (cfgs 0).N) 2
  exact congrArg (fun v => shapeCast S32x256x4096 v shapeCasts_S8192x4096_S32x256x4096) h

end Cert.Proof.PromptValue

end
-- ==== Proof.SampleValue.lean ====
/-
  The final RMSNorm of one group of tokens: the array the kernel leaves is the normalised rows times the gain.
-/
module

public import proofs.«01_k».proof.Proof.Gen.KernelSampleIdeal.Frame
public import proofs.«01_k».proof.Proof.Gen.ReferenceSampleIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.SampleValue

open Cert.KernelSampleIdeal Cert.KernelSampleIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its arguments: the group's rows, each over its root mean square, times the gain. -/
abbrev result (a0 : FVec Ideal Cert.ReferenceSampleIdeal.S16384x4096 .f32) (a1 : FVec Ideal Cert.ReferenceSampleIdeal.S4096 .f32) :
    FVec Ideal Cert.ReferenceSampleIdeal.S8x1024x4096 .f32 :=
  mulf (mulf (shapeCast _ (extractStridedSlice Cert.ReferenceSampleIdeal.S8192x4096 ![8192, 0] a0 Cert.ReferenceSampleIdeal.Gen.slices_S16384x4096_S8192x4096_8192_0) Cert.ReferenceSampleIdeal.Gen.shapeCasts_S8192x4096_S8x1024x4096) (broadcastInDim Cert.ReferenceSampleIdeal.S8x1024x4096 ![0, 1, 2] Cert.ReferenceSampleIdeal.Gen.bcast_S8x1024x1_S8x1024x4096_0_1_2 (Host.rsqrt (addf (Host.divf (broadcastInDim Cert.ReferenceSampleIdeal.S8x1024x1 ![0, 1] Cert.ReferenceSampleIdeal.Gen.bcast_S8x1024_S8x1024x1_0_1 (Host.reduceAdd (mulf (shapeCast _ (extractStridedSlice Cert.ReferenceSampleIdeal.S8192x4096 ![8192, 0] a0 Cert.ReferenceSampleIdeal.Gen.slices_S16384x4096_S8192x4096_8192_0) Cert.ReferenceSampleIdeal.Gen.shapeCasts_S8192x4096_S8x1024x4096) (shapeCast _ (extractStridedSlice Cert.ReferenceSampleIdeal.S8192x4096 ![8192, 0] a0 Cert.ReferenceSampleIdeal.Gen.slices_S16384x4096_S8192x4096_8192_0) Cert.ReferenceSampleIdeal.Gen.shapeCasts_S8192x4096_S8x1024x4096)) (constant Cert.ReferenceSampleIdeal.S_ .f32 0x00000000#32) Cert.ReferenceSampleIdeal.Gen.reducesTo_S8x1024x4096_S8x1024_d2 Cert.ReferenceSampleIdeal.Gen.h_S_)) (broadcastInDim Cert.ReferenceSampleIdeal.S8x1024x1 ![] Cert.ReferenceSampleIdeal.Gen.bcast_S_S8x1024x1 (constant Cert.ReferenceSampleIdeal.S_ .f32 0x45800000#32))) (broadcastInDim Cert.ReferenceSampleIdeal.S8x1024x1 ![] Cert.ReferenceSampleIdeal.Gen.bcast_S_S8x1024x1 (constant Cert.ReferenceSampleIdeal.S_ .f32 0x358637BD#32)))))) (broadcastInDim Cert.ReferenceSampleIdeal.S8x1024x4096 ![0, 1, 2] Cert.ReferenceSampleIdeal.Gen.bcast_S1x1x4096_S8x1024x4096_0_1_2 (broadcastInDim Cert.ReferenceSampleIdeal.S1x1x4096 ![2] Cert.ReferenceSampleIdeal.Gen.bcast_S4096_S1x1x4096_2 a1))

/-- The blocks of a grid point: a band of rows of the residual stream, the whole gain, and a band of the result. -/
theorem idx : ∀ t : Fin cfg0.N, win0_0.index t = ![t.val + 32, 0] ∧ win0_1.index t = ![0, 0] ∧ win0_2.index t = ![t.val, 0] :=
  (by decide +kernel : ∀ t : Fin grid0.N, _)

/-- The gain as the kernel reads it is the argument, laid out as one row. -/
theorem gain (c : Dev nD) :
    V m c main_v0 = shapeCast S1x4096 (m ((c : Thread nD τ).loc main_arg1)) shapeCasts_S4096_S1x4096 := by
  show StableHlo.after hostOps0 (fun b => m (c, b)) (Proc.devRef .tc main_v0) = _
  after_results
  rfl

/-- A list laid out as one row has the list's entry in each column. -/
theorem row_at (v : FVec Ideal S4096 .f32) (h : S4096.ShapeCasts S1x4096) (k : S1x4096.Idx) :
    shapeCast S1x4096 v h k = v (ix1 (k 1)) := by
  pointwise

/-- The same, entry by entry. -/
theorem gain_at (c : Dev nD) (k : S1x4096.Idx) : V m c main_v0 k = m ((c : Thread nD τ).loc main_arg1) (ix1 (k 1)) := by
  rw [gain]
  exact row_at _ _ _

/-- One entry of the band a grid point computes is the reference's entry at the band's place. -/
theorem core (c : Dev nD) (t : Fin cfg0.N) (y : S256x4096.Idx) (j : S8192x4096.Idx)
    (hj0 : (j 0 : ℕ) = t.val * 256 + (y 0 : ℕ)) (hj1 : (j 1 : ℕ) = (y 1 : ℕ)) :
    k0_pay1 (F := Ideal) (iblk m c 0 t) (iblk m c 1 t) y
      = shapeCast S8192x4096 (result (m ((c : Thread nD τ).loc main_arg0)) (m ((c : Thread nD τ).loc main_arg1))) (by decide) j := by
  pointwise [k0_pay1, result]
  blk_point [iblk, V_main_arg0 m c, idx t]
  exact (gain_at m c _).trans (by blk_ext [idx t])

/-- The kernel's array after the run is the reference's result with its rows in one list. -/
theorem flat (c : Dev nD) :
    (dats m 0 c).arrAt 2 (cfgs 0).N = shapeCast S8192x4096 (result (m ((c : Thread nD τ).loc main_arg0)) (m ((c : Thread nD τ).loc main_arg1))) (by decide) := by
  refine (dats m 0 c).arrAt_eq_of_covers 2 _ (by decide +kernel) fun t _ y => ?_
  blk_simp
  rw [after0_2]; frame_out
  refine core m c t y _ ?_ ?_
  all_goals (blk_simp [idx t] <;> try omega)

/-- The kernel's result, its rows sorted into sequences, is the reference's result. -/
theorem final (c : Dev nD) (h : S8192x4096.ShapeCasts S8x1024x4096) :
    shapeCast S8x1024x4096 ((dats m 0 c).arrAt 2 (cfgs 0).N) h = result (m ((c : Thread nD τ).loc main_arg0)) (m ((c : Thread nD τ).loc main_arg1)) := by
  rw [flat m c]
  exact shapeCast_shapeCast _ _ _

/-- What the reshape after the kernel leaves is the reference's result. -/
theorem tail (c : Dev nD) :
    Pipeline.afterTail₀ cfgs (dats m) 0 (V0 m) [hostOps1] c main_v2 = result (m ((c : Thread nD τ).loc main_arg0)) (m ((c : Thread nD τ).loc main_arg1)) := by
  unfold Pipeline.afterTail₀
  show StableHlo.after hostOps1 _ (Proc.devRef .tc main_v2) = _
  after_results
  refine Eq.trans ?_ (final m c shapeCasts_S8192x4096_S8x1024x4096)
  have h := Pipeline.withArrays_arr (cfgs 0).spec (by decide) c (V0 m c) (fun w => (dats m 0 c).arrAt w (cfgs 0).N) 2
  exact congrArg (fun v => shapeCast S8x1024x4096 v shapeCasts_S8192x4096_S8x1024x4096) h

end Cert.Proof.SampleValue

end
-- ==== Proof.SsdNormValue.lean ====
/-
  RMSNorm of a mixer's output: the array the kernel leaves is the normalised rows times the gain.
-/
module

public import proofs.«01_k».proof.Proof.Gen.KernelSsdNormIdeal.Value
public import proofs.«01_k».proof.Proof.Gen.ReferenceSsdNormIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.SsdNormValue

open Cert.KernelSsdNormIdeal Cert.KernelSsdNormIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its arguments: each row over its root mean square, times the gain. -/
abbrev result (a0 : FVec Ideal Cert.ReferenceSsdNormIdeal.S16384x1536 .f32) (a1 : FVec Ideal Cert.ReferenceSsdNormIdeal.S1536 .f32) :
    FVec Ideal Cert.ReferenceSsdNormIdeal.S16384x1536 .bf16 :=
  truncf .bf16 (mulf (mulf a0 (broadcastInDim Cert.ReferenceSsdNormIdeal.S16384x1536 ![0, 1] Cert.ReferenceSsdNormIdeal.Gen.bcast_S16384x1_S16384x1536_0_1 (Host.rsqrt (addf (Host.divf (broadcastInDim Cert.ReferenceSsdNormIdeal.S16384x1 ![0] Cert.ReferenceSsdNormIdeal.Gen.bcast_S16384_S16384x1_0 (Host.reduceAdd (mulf a0 a0) (constant Cert.ReferenceSsdNormIdeal.S_ .f32 0x00000000#32) Cert.ReferenceSsdNormIdeal.Gen.reducesTo_S16384x1536_S16384_d1 Cert.ReferenceSsdNormIdeal.Gen.h_S_)) (broadcastInDim Cert.ReferenceSsdNormIdeal.S16384x1 ![] Cert.ReferenceSsdNormIdeal.Gen.bcast_S_S16384x1 (constant Cert.ReferenceSsdNormIdeal.S_ .f32 0x44C00000#32))) (broadcastInDim Cert.ReferenceSsdNormIdeal.S16384x1 ![] Cert.ReferenceSsdNormIdeal.Gen.bcast_S_S16384x1 (constant Cert.ReferenceSsdNormIdeal.S_ .f32 0x358637BD#32)))))) (broadcastInDim Cert.ReferenceSsdNormIdeal.S16384x1536 ![0, 1] Cert.ReferenceSsdNormIdeal.Gen.bcast_S1x1536_S16384x1536_0_1 (broadcastInDim Cert.ReferenceSsdNormIdeal.S1x1536 ![1] Cert.ReferenceSsdNormIdeal.Gen.bcast_S1536_S1x1536_1 a1))) Cert.ReferenceSsdNormIdeal.Gen.bitsLt_bf16_f32

/-- The blocks of a grid point: a band of rows, the whole gain, and the same band of the result. -/
theorem idx : ∀ t : Fin cfg0.N, win0_0.index t = ![t.val, 0] ∧ win0_1.index t = ![0, 0] ∧ win0_2.index t = ![t.val, 0] :=
  (by decide +kernel : ∀ t : Fin grid0.N, _)

/-- One entry of the band a grid point computes is the reference's entry at the band's place. -/
theorem point (c : Dev nD) (t : Fin cfg0.N) (y) :
    k0_pay1 (F := Ideal) (iblk m c 0 t) (iblk m c 1 t) y
      = result (m ((c : Thread nD τ).loc main_arg0)) (m ((c : Thread nD τ).loc main_arg1)) (((cfg0.win 2).blk t).view.emb y) := by
  pointwise [k0_pay1, result]
  blk_point [iblk, V, idx t]

/-- The result array after the run is the reference's result. -/
theorem final (c : Dev nD) :
    (dats m 0 c).arrAt 2 (cfgs 0).N = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.SsdNormValue

end
-- ==== Proof.HyNormValue.lean ====
/-
  RMSNorm of a mixer's output: the array the kernel leaves is the normalised rows times the gain.
-/
module

public import proofs.«01_k».proof.Proof.Gen.KernelHyNormIdeal.Value
public import proofs.«01_k».proof.Proof.Gen.ReferenceHyNormIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.HyNormValue

open Cert.KernelHyNormIdeal Cert.KernelHyNormIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its arguments: each row over its root mean square, times the gain. -/
abbrev result (a0 : FVec Ideal Cert.ReferenceHyNormIdeal.S16384x1024 .f32) (a1 : FVec Ideal Cert.ReferenceHyNormIdeal.S1024 .f32) :
    FVec Ideal Cert.ReferenceHyNormIdeal.S16384x1024 .bf16 :=
  truncf .bf16 (mulf (mulf a0 (broadcastInDim Cert.ReferenceHyNormIdeal.S16384x1024 ![0, 1] Cert.ReferenceHyNormIdeal.Gen.bcast_S16384x1_S16384x1024_0_1 (Host.rsqrt (addf (Host.divf (broadcastInDim Cert.ReferenceHyNormIdeal.S16384x1 ![0] Cert.ReferenceHyNormIdeal.Gen.bcast_S16384_S16384x1_0 (Host.reduceAdd (mulf a0 a0) (constant Cert.ReferenceHyNormIdeal.S_ .f32 0x00000000#32) Cert.ReferenceHyNormIdeal.Gen.reducesTo_S16384x1024_S16384_d1 Cert.ReferenceHyNormIdeal.Gen.h_S_)) (broadcastInDim Cert.ReferenceHyNormIdeal.S16384x1 ![] Cert.ReferenceHyNormIdeal.Gen.bcast_S_S16384x1 (constant Cert.ReferenceHyNormIdeal.S_ .f32 0x44800000#32))) (broadcastInDim Cert.ReferenceHyNormIdeal.S16384x1 ![] Cert.ReferenceHyNormIdeal.Gen.bcast_S_S16384x1 (constant Cert.ReferenceHyNormIdeal.S_ .f32 0x358637BD#32)))))) (broadcastInDim Cert.ReferenceHyNormIdeal.S16384x1024 ![0, 1] Cert.ReferenceHyNormIdeal.Gen.bcast_S1x1024_S16384x1024_0_1 (broadcastInDim Cert.ReferenceHyNormIdeal.S1x1024 ![1] Cert.ReferenceHyNormIdeal.Gen.bcast_S1024_S1x1024_1 a1))) Cert.ReferenceHyNormIdeal.Gen.bitsLt_bf16_f32

/-- The blocks of a grid point: a band of rows, the whole gain, and the same band of the result. -/
theorem idx : ∀ t : Fin cfg0.N, win0_0.index t = ![t.val, 0] ∧ win0_1.index t = ![0, 0] ∧ win0_2.index t = ![t.val, 0] :=
  (by decide +kernel : ∀ t : Fin grid0.N, _)

/-- One entry of the band a grid point computes is the reference's entry at the band's place. -/
theorem point (c : Dev nD) (t : Fin cfg0.N) (y) :
    k0_pay1 (F := Ideal) (iblk m c 0 t) (iblk m c 1 t) y
      = result (m ((c : Thread nD τ).loc main_arg0)) (m ((c : Thread nD τ).loc main_arg1)) (((cfg0.win 2).blk t).view.emb y) := by
  pointwise [k0_pay1, result]
  blk_point [iblk, V, idx t]

/-- The result array after the run is the reference's result. -/
theorem final (c : Dev nD) :
    (dats m 0 c).arrAt 2 (cfgs 0).N = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.HyNormValue

end
-- ==== Proof.lean ====
module

public import proofs.«01_k».proof.Defs
public import proofs.«01_k».proof.Proof.Gen.KernelAtt
public import proofs.«01_k».proof.Proof.Gen.KernelAtt.Frame
public import proofs.«01_k».proof.Proof.Gen.KernelAttIdeal
public import proofs.«01_k».proof.Proof.Gen.KernelAttIdeal.Frame
public import proofs.«01_k».proof.Proof.Gen.ReferenceAttIdeal.Run
public import proofs.«01_k».proof.Proof.AttValue
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.ReferenceUpIdeal.Run
public import proofs.«01_k».proof.Proof.UpValue
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal.Run
public import proofs.«01_k».proof.Proof.DownValue
public import proofs.«01_k».proof.Proof.Gen.KernelProj
public import proofs.«01_k».proof.Proof.Gen.KernelProj.Frame
public import proofs.«01_k».proof.Proof.Gen.KernelProjIdeal
public import proofs.«01_k».proof.Proof.Gen.KernelProjIdeal.Frame
public import proofs.«01_k».proof.Proof.Gen.ReferenceProjIdeal.Run
public import proofs.«01_k».proof.Proof.ProjValue
public import proofs.«01_k».proof.Proof.Gen.KernelCaches
public import proofs.«01_k».proof.Proof.Gen.KernelCaches.Frame
public import proofs.«01_k».proof.Proof.Gen.KernelCachesIdeal
public import proofs.«01_k».proof.Proof.Gen.KernelCachesIdeal.Frame
public import proofs.«01_k».proof.Proof.Gen.ReferenceCachesIdeal.Run
public import proofs.«01_k».proof.Proof.CachesValue
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal.Run
public import proofs.«01_k».proof.Proof.OutValue
public import proofs.«01_k».proof.Proof.Gen.KernelAda
public import proofs.«01_k».proof.Proof.Gen.KernelAda.Frame
public import proofs.«01_k».proof.Proof.Gen.KernelAdaIdeal
public import proofs.«01_k».proof.Proof.Gen.KernelAdaIdeal.Frame
public import proofs.«01_k».proof.Proof.Gen.ReferenceAdaIdeal.Run
public import proofs.«01_k».proof.Proof.AdaValue
public import proofs.«01_k».proof.Proof.Gen.KernelModA
public import proofs.«01_k».proof.Proof.Gen.KernelModA.Frame
public import proofs.«01_k».proof.Proof.Gen.KernelModAIdeal
public import proofs.«01_k».proof.Proof.Gen.KernelModAIdeal.Frame
public import proofs.«01_k».proof.Proof.Gen.ReferenceModAIdeal.Run
public import proofs.«01_k».proof.Proof.ModAValue
public import proofs.«01_k».proof.Proof.Gen.KernelModB
public import proofs.«01_k».proof.Proof.Gen.KernelModB.Frame
public import proofs.«01_k».proof.Proof.Gen.KernelModBIdeal
public import proofs.«01_k».proof.Proof.Gen.KernelModBIdeal.Frame
public import proofs.«01_k».proof.Proof.Gen.ReferenceModBIdeal.Run
public import proofs.«01_k».proof.Proof.ModBValue
public import proofs.«01_k».proof.Proof.Gen.KernelPrompt
public import proofs.«01_k».proof.Proof.Gen.KernelPrompt.Frame
public import proofs.«01_k».proof.Proof.Gen.KernelPromptIdeal
public import proofs.«01_k».proof.Proof.Gen.KernelPromptIdeal.Frame
public import proofs.«01_k».proof.Proof.Gen.ReferencePromptIdeal.Run
public import proofs.«01_k».proof.Proof.PromptValue
public import proofs.«01_k».proof.Proof.Gen.KernelSample
public import proofs.«01_k».proof.Proof.Gen.KernelSample.Frame
public import proofs.«01_k».proof.Proof.Gen.KernelSampleIdeal
public import proofs.«01_k».proof.Proof.Gen.KernelSampleIdeal.Frame
public import proofs.«01_k».proof.Proof.Gen.ReferenceSampleIdeal.Run
public import proofs.«01_k».proof.Proof.SampleValue
public import proofs.«01_k».proof.Proof.Gen.KernelSsdNorm
public import proofs.«01_k».proof.Proof.Gen.KernelSsdNorm.Frame
public import proofs.«01_k».proof.Proof.Gen.KernelSsdNormIdeal
public import proofs.«01_k».proof.Proof.Gen.KernelSsdNormIdeal.Frame
public import proofs.«01_k».proof.Proof.Gen.ReferenceSsdNormIdeal.Run
public import proofs.«01_k».proof.Proof.SsdNormValue
public import proofs.«01_k».proof.Proof.Gen.KernelHyNorm
public import proofs.«01_k».proof.Proof.Gen.KernelHyNorm.Frame
public import proofs.«01_k».proof.Proof.Gen.KernelHyNormIdeal
public import proofs.«01_k».proof.Proof.Gen.KernelHyNormIdeal.Frame
public import proofs.«01_k».proof.Proof.Gen.ReferenceHyNormIdeal.Run
public import proofs.«01_k».proof.Proof.HyNormValue
public import proofs.«01_k».proof.Proof.Gen.Pre_queries_keys_finite
public import Idealize.ShloMosaic.Adequacy
public import Idealize.ShloMosaic.Init

@[expose] public section

noncomputable section

namespace Cert.Proof

open Idealize.ShloMosaic Idealize.SL.Sem

/-- The reference of `Att` runs to the end and leaves its arguments as they were. -/
theorem frame_referenceAtt : Cert.quiescent_ReferenceAttIdeal := by
  intro m g _
  exact (θ_run _ _ _).mono (fun r h => ⟨fun c => (h c).2, sem_eq_zero_of_no_sems (by decide) r.2⟩)
    (Cert.ReferenceAttIdeal.Value.run m g)

/-- On equal arguments the kernel `Att` and its reference end with equal results, where the queries and keys are finite. -/
theorem algebraic_Att : Cert.algebraic_KernelAttIdeal_ReferenceAttIdeal_pre_queries_keys_finite := by
  pair_intro
  · run_from Cert.KernelAttIdeal.Gen.run_main m g
  · run_from Cert.ReferenceAttIdeal.Value.run m' g'
    refine (Cert.Proof.AttReference.run_result m' c).trans ?_
    rw [(hagree c).1, (hagree c).2.1, (hagree c).2.2]
    exact (Cert.Proof.AttValue.final m c (hpre c)).symm

/-- The reference of `Up` runs to the end and leaves its arguments as they were. -/
theorem frame_referenceUp : Cert.quiescent_ReferenceUpIdeal := by
  intro m g _
  exact (θ_run _ _ _).mono (fun r h => ⟨fun c => (h c).2, sem_eq_zero_of_no_sems (by decide) r.2⟩)
    (Cert.ReferenceUpIdeal.Value.run m g)

/-- On equal arguments the kernel `Up` and its reference end with equal results. -/
theorem algebraic_Up : Cert.algebraic_KernelUpIdeal_ReferenceUpIdeal := by
  pair_intro
  · run_from Cert.KernelUpIdeal.Gen.run_main m g
  · refine (θ_run _ _ _).mono (fun r h c => ?_) (Cert.ReferenceUpIdeal.Value.run (F := Ideal) m' g')
    obtain ⟨a0, a1, a2, a3⟩ := hagree c
    exact ⟨(h c).1.trans (Cert.Proof.UpValue.final m m' c a0 a1 a2 a3).symm, (h c).2⟩

/-- The reference of `Down` runs to the end and leaves its arguments as they were. -/
theorem frame_referenceDown : Cert.quiescent_ReferenceDownIdeal := by
  intro m g _
  exact (θ_run _ _ _).mono (fun r h => ⟨fun c => (h c).2, sem_eq_zero_of_no_sems (by decide) r.2⟩)
    (Cert.ReferenceDownIdeal.Value.run m g)

/-- On equal arguments the kernel `Down` and its reference end with equal results. -/
theorem algebraic_Down : Cert.algebraic_KernelDownIdeal_ReferenceDownIdeal := by
  pair_intro
  · run_from Cert.KernelDownIdeal.Gen.run_main m g
  · run_from Cert.ReferenceDownIdeal.Value.run m' g'
    rw [(hagree c).2.2.2]
    exact (Cert.Proof.DownValue.final m c).symm

/-- The reference of `Proj` runs to the end and leaves its arguments as they were. -/
theorem frame_referenceProj : Cert.quiescent_ReferenceProjIdeal := by
  intro m g _
  exact (θ_run _ _ _).mono (fun r h => ⟨fun c => (h c).2, sem_eq_zero_of_no_sems (by decide) r.2⟩)
    (Cert.ReferenceProjIdeal.Value.run m g)

/-- On equal arguments the kernel `Proj` and its reference end with equal results. -/
theorem algebraic_Proj : Cert.algebraic_KernelProjIdeal_ReferenceProjIdeal := by
  pair_intro
  · run_from Cert.KernelProjIdeal.Gen.run_main m g
  · run_from Cert.ReferenceProjIdeal.Value.run m' g'
    exact (Cert.Proof.ProjValue.final m c).symm

/-- The reference of `Caches` runs to the end and leaves its arguments as they were. -/
theorem frame_referenceCaches : Cert.quiescent_ReferenceCachesIdeal := by
  intro m g _
  exact (θ_run _ _ _).mono (fun r h => ⟨fun c => (h c).2.2, sem_eq_zero_of_no_sems (by decide) r.2⟩)
    (Cert.ReferenceCachesIdeal.Value.run m g)

/-- On equal arguments the kernel `Caches` and its reference end with equal results. -/
theorem algebraic_Caches : Cert.algebraic_KernelCachesIdeal_ReferenceCachesIdeal := by
  pair_intro
  · refine (θ_run _ _ _).mono (fun r h c => ?_) (Cert.Proof.CachesValue.run m g)
    exact h c
  · refine (θ_run _ _ _).mono (fun r h c => ?_) (Cert.Proof.CachesReference.run m' g')
    obtain ⟨a0, a1, a2, a3, a4⟩ := hagree c
    exact ⟨(h c).1.trans (by rw [a0, a1, a2, a3, a4]), (h c).2.1.trans (by rw [a0, a1, a2, a3, a4]), (h c).2.2⟩

/-- The reference of `Out` runs to the end and leaves its arguments as they were. -/
theorem frame_referenceOut : Cert.quiescent_ReferenceOutIdeal := by
  intro m g _
  exact (θ_run _ _ _).mono (fun r h => ⟨fun c => (h c).2, sem_eq_zero_of_no_sems (by decide) r.2⟩)
    (Cert.ReferenceOutIdeal.Value.run m g)

/-- On equal arguments the kernel `Out` and its reference end with equal results. -/
theorem algebraic_Out : Cert.algebraic_KernelOutIdeal_ReferenceOutIdeal := by
  pair_intro
  · run_from Cert.KernelOutIdeal.Gen.run_main m g
  · run_from Cert.ReferenceOutIdeal.Value.run m' g'
    rw [(hagree c).2.2.2]
    exact (Cert.Proof.OutValue.final m c).symm

/-- The reference of `Ada` runs to the end and leaves its arguments as they were. -/
theorem frame_referenceAda : Cert.quiescent_ReferenceAdaIdeal := by
  intro m g _
  exact (θ_run _ _ _).mono (fun r h => ⟨fun c => (h c).2, sem_eq_zero_of_no_sems (by decide) r.2⟩)
    (Cert.ReferenceAdaIdeal.Value.run m g)

/-- On equal arguments the kernel `Ada` and its reference end with equal results. -/
theorem algebraic_Ada : Cert.algebraic_KernelAdaIdeal_ReferenceAdaIdeal := by
  pair_intro
  · run_from Cert.KernelAdaIdeal.Gen.run_main m g
  · run_from Cert.ReferenceAdaIdeal.Value.run m' g'
    rw [(hagree c).2.2]
    exact (Cert.Proof.AdaValue.final m c).symm

/-- The reference of `ModA` runs to the end and leaves its arguments as they were. -/
theorem frame_referenceModA : Cert.quiescent_ReferenceModAIdeal := by
  intro m g _
  exact (θ_run _ _ _).mono (fun r h => ⟨fun c => (h c).2, sem_eq_zero_of_no_sems (by decide) r.2⟩)
    (Cert.ReferenceModAIdeal.Value.run m g)

/-- On equal arguments the kernel `ModA` and its reference end with equal results. -/
theorem algebraic_ModA : Cert.algebraic_KernelModAIdeal_ReferenceModAIdeal := by
  pair_intro
  · run_from Cert.KernelModAIdeal.Gen.run_main m g
  · run_from Cert.ReferenceModAIdeal.Value.run m' g'
    rw [(hagree c).2.2]
    exact (Cert.Proof.ModAValue.final m c).symm

/-- The reference of `ModB` runs to the end and leaves its arguments as they were. -/
theorem frame_referenceModB : Cert.quiescent_ReferenceModBIdeal := by
  intro m g _
  exact (θ_run _ _ _).mono (fun r h => ⟨fun c => (h c).2, sem_eq_zero_of_no_sems (by decide) r.2⟩)
    (Cert.ReferenceModBIdeal.Value.run m g)

/-- On equal arguments the kernel `ModB` and its reference end with equal results. -/
theorem algebraic_ModB : Cert.algebraic_KernelModBIdeal_ReferenceModBIdeal := by
  pair_intro
  · run_from Cert.KernelModBIdeal.Gen.run_main m g
  · run_from Cert.ReferenceModBIdeal.Value.run m' g'
    rw [(hagree c).2.2]
    exact (Cert.Proof.ModBValue.final m c).symm

/-- The reference of `Prompt` runs to the end and leaves its arguments as they were. -/
theorem frame_referencePrompt : Cert.quiescent_ReferencePromptIdeal := by
  intro m g _
  exact (θ_run _ _ _).mono (fun r h => ⟨fun c => (h c).2, sem_eq_zero_of_no_sems (by decide) r.2⟩)
    (Cert.ReferencePromptIdeal.Value.run m g)

/-- On equal arguments the kernel `Prompt` and its reference end with equal results. -/
theorem algebraic_Prompt : Cert.algebraic_KernelPromptIdeal_ReferencePromptIdeal := by
  pair_intro
  · run_from Cert.KernelPromptIdeal.Gen.run_main m g
    exact Cert.KernelPromptIdeal.Gen.W_main_arg1 m (Cert.KernelPromptIdeal.Gen.dats m) c
  · run_from Cert.ReferencePromptIdeal.Value.run m' g'
    exact (Cert.Proof.PromptValue.tail m c).symm

/-- The reference of `Sample` runs to the end and leaves its arguments as they were. -/
theorem frame_referenceSample : Cert.quiescent_ReferenceSampleIdeal := by
  intro m g _
  exact (θ_run _ _ _).mono (fun r h => ⟨fun c => (h c).2, sem_eq_zero_of_no_sems (by decide) r.2⟩)
    (Cert.ReferenceSampleIdeal.Value.run m g)

/-- On equal arguments the kernel `Sample` and its reference end with equal results. -/
theorem algebraic_Sample : Cert.algebraic_KernelSampleIdeal_ReferenceSampleIdeal := by
  pair_intro
  · run_from Cert.KernelSampleIdeal.Gen.run_main m g
    exact Cert.KernelSampleIdeal.Gen.W_main_arg1 m (Cert.KernelSampleIdeal.Gen.dats m) c
  · run_from Cert.ReferenceSampleIdeal.Value.run m' g'
    exact (Cert.Proof.SampleValue.tail m c).symm

/-- The reference of `SsdNorm` runs to the end and leaves its arguments as they were. -/
theorem frame_referenceSsdNorm : Cert.quiescent_ReferenceSsdNormIdeal := by
  intro m g _
  exact (θ_run _ _ _).mono (fun r h => ⟨fun c => (h c).2, sem_eq_zero_of_no_sems (by decide) r.2⟩)
    (Cert.ReferenceSsdNormIdeal.Value.run m g)

/-- On equal arguments the kernel `SsdNorm` and its reference end with equal results. -/
theorem algebraic_SsdNorm : Cert.algebraic_KernelSsdNormIdeal_ReferenceSsdNormIdeal := by
  pair_intro
  · run_from Cert.KernelSsdNormIdeal.Gen.run_main m g
  · run_from Cert.ReferenceSsdNormIdeal.Value.run m' g'
    exact (Cert.Proof.SsdNormValue.final m c).symm

/-- The reference of `HyNorm` runs to the end and leaves its arguments as they were. -/
theorem frame_referenceHyNorm : Cert.quiescent_ReferenceHyNormIdeal := by
  intro m g _
  exact (θ_run _ _ _).mono (fun r h => ⟨fun c => (h c).2, sem_eq_zero_of_no_sems (by decide) r.2⟩)
    (Cert.ReferenceHyNormIdeal.Value.run m g)

/-- On equal arguments the kernel `HyNorm` and its reference end with equal results. -/
theorem algebraic_HyNorm : Cert.algebraic_KernelHyNormIdeal_ReferenceHyNormIdeal := by
  pair_intro
  · run_from Cert.KernelHyNormIdeal.Gen.run_main m g
  · run_from Cert.ReferenceHyNormIdeal.Value.run m' g'
    exact (Cert.Proof.HyNormValue.final m c).symm

/-- All the claims of the certificate. -/
theorem claim : Cert.Claim :=
  ⟨Cert.KernelAtt.Gen.facts, Cert.KernelAttIdeal.Gen.facts, Cert.ReferenceAttIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelProj.Gen.facts, Cert.KernelProjIdeal.Gen.facts, Cert.ReferenceProjIdeal.Gen.facts, Cert.KernelCaches.Gen.facts, Cert.KernelCachesIdeal.Gen.facts, Cert.ReferenceCachesIdeal.Gen.facts, Cert.KernelOut.Gen.facts, Cert.KernelOutIdeal.Gen.facts, Cert.ReferenceOutIdeal.Gen.facts, Cert.KernelAda.Gen.facts, Cert.KernelAdaIdeal.Gen.facts, Cert.ReferenceAdaIdeal.Gen.facts, Cert.KernelModA.Gen.facts, Cert.KernelModAIdeal.Gen.facts, Cert.ReferenceModAIdeal.Gen.facts, Cert.KernelModB.Gen.facts, Cert.KernelModBIdeal.Gen.facts, Cert.ReferenceModBIdeal.Gen.facts, Cert.KernelPrompt.Gen.facts, Cert.KernelPromptIdeal.Gen.facts, Cert.ReferencePromptIdeal.Gen.facts, Cert.KernelSample.Gen.facts, Cert.KernelSampleIdeal.Gen.facts, Cert.ReferenceSampleIdeal.Gen.facts, Cert.KernelSsdNorm.Gen.facts, Cert.KernelSsdNormIdeal.Gen.facts, Cert.ReferenceSsdNormIdeal.Gen.facts, Cert.KernelHyNorm.Gen.facts, Cert.KernelHyNormIdeal.Gen.facts, Cert.ReferenceHyNormIdeal.Gen.facts, Cert.Pre_queries_keys_finite.Gen.facts,
   fun m ρ _ => Cert.KernelAtt.Gen.frame m ρ, fun m ρ _ => Cert.KernelAttIdeal.Gen.frame m ρ, fun m ρ _ => Cert.KernelAttIdeal.Gen.frame m ρ, frame_referenceAtt, fun m ρ _ => frame_referenceAtt m ρ trivial, fun m ρ _ => Cert.KernelUp.Gen.frame m ρ, fun m ρ _ => Cert.KernelUpIdeal.Gen.frame m ρ, frame_referenceUp, fun m ρ _ => Cert.KernelDown.Gen.frame m ρ, fun m ρ _ => Cert.KernelDownIdeal.Gen.frame m ρ, frame_referenceDown, fun m ρ _ => Cert.KernelProj.Gen.frame m ρ, fun m ρ _ => Cert.KernelProjIdeal.Gen.frame m ρ, frame_referenceProj, fun m ρ _ => Cert.KernelCaches.Gen.frame m ρ, fun m ρ _ => Cert.KernelCachesIdeal.Gen.frame m ρ, frame_referenceCaches, fun m ρ _ => Cert.KernelOut.Gen.frame m ρ, fun m ρ _ => Cert.KernelOutIdeal.Gen.frame m ρ, frame_referenceOut, fun m ρ _ => Cert.KernelAda.Gen.frame m ρ, fun m ρ _ => Cert.KernelAdaIdeal.Gen.frame m ρ, frame_referenceAda, fun m ρ _ => Cert.KernelModA.Gen.frame m ρ, fun m ρ _ => Cert.KernelModAIdeal.Gen.frame m ρ, frame_referenceModA, fun m ρ _ => Cert.KernelModB.Gen.frame m ρ, fun m ρ _ => Cert.KernelModBIdeal.Gen.frame m ρ, frame_referenceModB, fun m ρ _ => Cert.KernelPrompt.Gen.frame m ρ, fun m ρ _ => Cert.KernelPromptIdeal.Gen.frame m ρ, frame_referencePrompt, fun m ρ _ => Cert.KernelSample.Gen.frame m ρ, fun m ρ _ => Cert.KernelSampleIdeal.Gen.frame m ρ, frame_referenceSample, fun m ρ _ => Cert.KernelSsdNorm.Gen.frame m ρ, fun m ρ _ => Cert.KernelSsdNormIdeal.Gen.frame m ρ, frame_referenceSsdNorm, fun m ρ _ => Cert.KernelHyNorm.Gen.frame m ρ, fun m ρ _ => Cert.KernelHyNormIdeal.Gen.frame m ρ, frame_referenceHyNorm,
   trivial, algebraic_Att, trivial, algebraic_Up, trivial, algebraic_Down, trivial, algebraic_Proj, trivial, algebraic_Caches, trivial, algebraic_Out, trivial, algebraic_Ada, trivial, algebraic_ModA, trivial, algebraic_ModB, trivial, algebraic_Prompt, trivial, algebraic_Sample, trivial, algebraic_SsdNorm, trivial, algebraic_HyNorm⟩

end Cert.Proof

end
